-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x8x64 .bf16 := Host.absf main_arg2
  let main_cst_2 : FVec F S_ .bf16 := constant S_ .bf16 0x7F80#16
  let main_v10 : FVec F S2x512x8x64 .bf16 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_scores_ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x512x768 .bf16) (main_arg1 : FVec F S768x512 .bf16) (main_arg2 : FVec F S2x4096x8x64 .bf16) (main_arg3 : FVec F S2x4096x8x64 .bf16) (main_arg4 : FVec F S512x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x4096x8x64 .bf16 := Host.absf main_arg2
  let main_cst_2 : FVec F S_ .bf16 := constant S_ .bf16 0x7F80#16
  let main_v10 : FVec F S2x4096x8x64 .bf16 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x8x512x64 : Shape := ⟨4, ![2, 8, 512, 64]⟩
abbrev S2x8x2x512 : Shape := ⟨4, ![2, 8, 2, 512]⟩
abbrev S3x2x8x512x64 : Shape := ⟨5, ![3, 2, 8, 512, 64]⟩
abbrev S3x2x8x2x512 : Shape := ⟨5, ![3, 2, 8, 2, 512]⟩
abbrev S2x3 : Shape := ⟨2, ![2, 3]⟩
abbrev S_ : Shape := ⟨0, ![]⟩
abbrev S512x512 : Shape := ⟨2, ![512, 512]⟩
abbrev S1x512x768 : Shape := ⟨3, ![1, 512, 768]⟩
abbrev S1x512x8x64 : Shape := ⟨4, ![1, 512, 8, 64]⟩
abbrev S512x8x64 : Shape := ⟨3, ![512, 8, 64]⟩
abbrev S512x64 : Shape := ⟨2, ![512, 64]⟩
abbrev S512x1x64 : Shape := ⟨3, ![512, 1, 64]⟩
abbrev S512 : Shape := ⟨1, ![512]⟩
abbrev S512x1 : Shape := ⟨2, ![512, 1]⟩
abbrev S1x1x512x64 : Shape := ⟨4, ![1, 1, 512, 64]⟩
abbrev S1x1x1x512 : Shape := ⟨4, ![1, 1, 1, 512]⟩
abbrev S1x1 : Shape := ⟨2, ![1, 1]⟩
abbrev S1x2x8x512x64 : Shape := ⟨5, ![1, 2, 8, 512, 64]⟩
abbrev S1x2x8x2x512 : Shape := ⟨5, ![1, 2, 8, 2, 512]⟩
abbrev S2x8x1x512 : Shape := ⟨4, ![2, 8, 1, 512]⟩
abbrev S2x8x512 : Shape := ⟨3, ![2, 8, 512]⟩
abbrev S1x2x8x1x512 : Shape := ⟨5, ![1, 2, 8, 1, 512]⟩
abbrev S2x8x512x1 : Shape := ⟨4, ![2, 8, 512, 1]⟩
abbrev S64x768 : Shape := ⟨2, ![64, 768]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S2x512x768, .f32⟩
  | .local _ .vmem, ⟨6, _⟩ => ⟨S2x8x512x64, .bf16⟩
  | .local _ .vmem, ⟨7, _⟩ => ⟨S2x8x2x512, .f32⟩
  | .local _ .vmem, ⟨8, _⟩ => ⟨S3x2x8x512x64, .bf16⟩
  | .local _ .vmem, ⟨9, _⟩ => ⟨S3x2x8x2x512, .f32⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_320 : BitVec 32 := 1#32
  let v494 : BitVec 32 := Scalar.muli v3 c1_i32_320
  let v495 : BitVec 32 := Scalar.addi c0_i32_321 v494
  v495.toNat
def k0_dev5 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_331 : BitVec 32 := 1#32
  let v502 : BitVec 32 := Scalar.muli v3 c1_i32_331
  let v503 : BitVec 32 := Scalar.addi c0_i32_332 v502
  v503.toNat
def k0_dev6 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_423 : BitVec 32 := 1#32
  let v568 : BitVec 32 := Scalar.muli v4 c1_i32_423
  let v569 : BitVec 32 := Scalar.addi c0_i32_424 v568
  v569.toNat
def k0_dev7 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_434 : BitVec 32 := 1#32
  let v576 : BitVec 32 := Scalar.muli v4 c1_i32_434
  let v577 : BitVec 32 := Scalar.addi c0_i32_435 v576
  v577.toNat
def k0_dev8 (d0 : Dev nD) : Nat :=
  let c0_i32_527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_526 : BitVec 32 := 1#32
  let v642 : BitVec 32 := Scalar.muli v5 c1_i32_526
  let v643 : BitVec 32 := Scalar.addi c0_i32_527 v642
  v643.toNat
def k0_dev9 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_537 : BitVec 32 := 1#32
  let v650 : BitVec 32 := Scalar.muli v5 c1_i32_537
  let v651 : BitVec 32 := Scalar.addi c0_i32_538 v650
  v651.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x4096x8x64 : Shape := ⟨4, ![2, 4096, 8, 64]⟩
abbrev S512x768 : Shape := ⟨2, ![512, 768]⟩
abbrev S2x512x512 : Shape := ⟨3, ![2, 512, 512]⟩
abbrev S2x512x8x64 : Shape := ⟨4, ![2, 512, 8, 64]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S_ : Shape := ⟨0, ![]⟩
abbrev S2x8x512x4096 : Shape := ⟨4, ![2, 8, 512, 4096]⟩
abbrev S1x1x512x4096 : Shape := ⟨4, ![1, 1, 512, 4096]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x4096x8x64, .bf16⟩
  | .hbm, ⟨3, _⟩ => ⟨S2x4096x8x64, .bf16⟩
  | .hbm, ⟨4, _⟩ => ⟨S512x768, .bf16⟩
  | .hbm, ⟨5, _⟩ => ⟨S2x512x512, .f32⟩
  | .hbm, ⟨6, _⟩ => ⟨S2x512x512, .bf16⟩
  | .hbm, ⟨7, _⟩ => ⟨S2x512x8x64, .bf16⟩
  | .hbm, ⟨8, _⟩ => ⟨S512, .i32⟩
  | .hbm, ⟨9, _⟩ => ⟨S512x1, .i32⟩
  | .hbm, ⟨10, _⟩ => ⟨S4096, .i32⟩
  | .hbm, ⟨11, _⟩ => ⟨S1x4096, .i32⟩
  | .hbm, ⟨12, _⟩ => ⟨S512x4096, .i32⟩
  | .hbm, ⟨13, _⟩ => ⟨S512x4096, .i32⟩
  | .hbm, ⟨14, _⟩ => ⟨S512x4096, .i32⟩
  | .hbm, ⟨15, _⟩ => ⟨S512x4096, .i32⟩
  | .hbm, ⟨16, _⟩ => ⟨S_, .i32⟩
  | .hbm, ⟨17, _⟩ => ⟨S512x4096, .i32⟩
  | .hbm, ⟨18, _⟩ => ⟨S512x4096, .i1⟩
  | .hbm, ⟨19, _⟩ => ⟨S_, .i32⟩
  | .hbm, ⟨20, _⟩ => ⟨S1x4096, .i32⟩
  | .hbm, ⟨21, _⟩ => ⟨S1x4096, .i1⟩
  | .hbm, ⟨22, _⟩ => ⟨S_, .i32⟩
  | .hbm, ⟨23, _⟩ => ⟨S512x1, .i32⟩
  | .hbm, ⟨24, _⟩ => ⟨S512x1, .i1⟩
  | .hbm, ⟨25, _⟩ => ⟨S512x4096, .i1⟩
  | .hbm, ⟨26, _⟩ => ⟨S512x4096, .i1⟩
  | .hbm, ⟨27, _⟩ => ⟨S512x4096, .i1⟩
  | .hbm, ⟨28, _⟩ => ⟨S512x4096, .i1⟩
  | .hbm, ⟨29, _⟩ => ⟨S2x8x512x4096, .f32⟩
  | .hbm, ⟨30, _⟩ => ⟨S2x8x512x4096, .bf16⟩
  | .hbm, ⟨31, _⟩ => ⟨S2x8x512x4096, .f32⟩
  | .hbm, ⟨32, _⟩ => ⟨S_, .f32⟩
  | .hbm, ⟨33, _⟩ => ⟨S2x8x512x4096, .f32⟩
  | .hbm, ⟨34, _⟩ => ⟨S2x8x512x4096, .f32⟩
  | .hbm, ⟨35, _⟩ => ⟨S1x1x512x4096, .i1⟩
  | .hbm, ⟨36, _⟩ => ⟨S_, .f32⟩
  | .hbm, ⟨37, _⟩ => ⟨S_, .f32⟩
  | .hbm, ⟨38, _⟩ => ⟨S2x8x512x4096, .i1⟩
  | .hbm, ⟨39, _⟩ => ⟨S2x8x512x4096, .f32⟩
  | .hbm, ⟨40, _⟩ => ⟨S2x8x512x4096, .f32⟩
  | .hbm, ⟨41, _⟩ => ⟨S_, .f32⟩
  | .hbm, ⟨42, _⟩ => ⟨S2x8x512, .f32⟩
  | .hbm, ⟨43, _⟩ => ⟨S2x8x512x1, .f32⟩
  | .hbm, ⟨44, _⟩ => ⟨S2x8x512x4096, .f32⟩
  | .hbm, ⟨45, _⟩ => ⟨S2x8x512x4096, .f32⟩
  | .hbm, ⟨46, _⟩ => ⟨S2x8x512x4096, .f32⟩
  | .hbm, ⟨47, _⟩ => ⟨S_, .i1⟩
  | .hbm, ⟨48, _⟩ => ⟨S512, .i1⟩
  | .hbm, ⟨49, _⟩ => ⟨S1x1x512x1, .i1⟩
  | .hbm, ⟨50, _⟩ => ⟨S_, .f32⟩
  | .hbm, ⟨51, _⟩ => ⟨S2x8x512, .f32⟩
  | .hbm, ⟨52, _⟩ => ⟨S2x8x512x1, .f32⟩
  | .hbm, ⟨53, _⟩ => ⟨S_, .f32⟩
  | .hbm, ⟨54, _⟩ => ⟨S_, .f32⟩
  | .hbm, ⟨55, _⟩ => ⟨S2x8x512x1, .i1⟩
  | .hbm, ⟨56, _⟩ => ⟨S2x8x512x1, .f32⟩
  | .hbm, ⟨57, _⟩ => ⟨S2x8x512x1, .f32⟩
  | .hbm, ⟨58, _⟩ => ⟨S2x8x512x4096, .f32⟩
  | .hbm, ⟨59, _⟩ => ⟨S2x8x512x4096, .f32⟩
  | .hbm, ⟨60, _⟩ => ⟨S1x1x512x1, .i1⟩
  | .hbm, ⟨61, _⟩ => ⟨S_, .f32⟩
  | .hbm, ⟨62, _⟩ => ⟨S_, .f32⟩
  | .hbm, ⟨63, _⟩ => ⟨S2x8x512x4096, .i1⟩
  | .hbm, ⟨64, _⟩ => ⟨S2x8x512x4096, .f32⟩
  | .hbm, ⟨65, _⟩ => ⟨S2x8x512x4096, .f32⟩
  | .hbm, ⟨66, _⟩ => ⟨S2x4096x8x64, .f32⟩
  | .hbm, ⟨67, _⟩ => ⟨S2x8x64x512, .f32⟩
  | .hbm, ⟨68, _⟩ => ⟨S2x512x8x64, .f32⟩
  | .hbm, ⟨69, _⟩ => ⟨S2x512x512, .f32⟩
  | .hbm, ⟨70, _⟩ => ⟨S512x768, .f32⟩
  | .hbm, ⟨71, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Contents.lean ====
/-
What the kernel holds, at every float instance.

Device `c` has its blocks of the five operands. From them it computes, for each batch row and head, the running maximum,
the running sum of exponentials and the running product with `V` of its own 512 keys (`locO`, `locML`). Three exchanges
follow: in exchange `k` the devices `c` and `c xor 2^k` swap their accumulators and each combines the two (`stepO`,
`stepML`). `accO k c`, `accML k c` are device `c`'s accumulators before exchange `k`; `outV` is the result it writes.
-/
module

public import proofs.«01_k».proof.Proof.Gen.KernelIdeal
public import proofs.«01_k».proof.Proof.Gen.KernelIdeal.Skeleton
public import Idealize.ShloMosaic.Lib.ValueIdxCore

@[expose] public section

set_option maxRecDepth 16384

noncomputable section

namespace Cert.Exchange

open Cert.KernelIdeal Cert.KernelIdeal.Gen
open Idealize.ShloMosaic Idealize.ShloMosaic.ValueIdx

variable {F : FTy → Type} [FloatOps F]

/-! ## The buffers -/

abbrev m0 : Memref sig .tc .vmem S2x512x768 .bf16 := Memref.whole cc0_stg0_0
abbrev m1 : Memref sig .tc .vmem S768x512 .bf16 := Memref.whole cc0_stg1_0
abbrev m2 : Memref sig .tc .vmem S2x512x8x64 .bf16 := Memref.whole cc0_stg2_0
abbrev m3 : Memref sig .tc .vmem S2x512x8x64 .bf16 := Memref.whole cc0_stg3_0
abbrev m4 : Memref sig .tc .vmem S512x768 .bf16 := Memref.whole cc0_stg4_0
abbrev m5 : Memref sig .tc .vmem S2x512x768 .f32 := Memref.whole cc0_stg5_0
abbrev m6 : Memref sig .tc .vmem S2x8x512x64 .bf16 := Memref.whole cc0_scratch0
abbrev m7 : Memref sig .tc .vmem S2x8x2x512 .f32 := Memref.whole cc0_scratch1
abbrev m8 : Memref sig .tc .vmem S3x2x8x512x64 .bf16 := Memref.whole cc0_scratch2
abbrev m9 : Memref sig .tc .vmem S3x2x8x2x512 .f32 := Memref.whole cc0_scratch3

/-- Landing-buffer contents whose every slice holds `a`. -/
def liftO (a : Vec F S2x8x512x64 .bf16) : Vec F S3x2x8x512x64 .bf16 := fun y => a (ix4 (y 1) (y 2) (y 3) (y 4))
def liftM (a : Vec F S2x8x2x512 .f32) : Vec F S3x2x8x2x512 .f32 := fun y => a (ix4 (y 1) (y 2) (y 3) (y 4))

/-! ## The blocks the kernel loads -/

theorem inbX (b : Fin 2) : ∀ a, (![b.val, 0, 0] : Fin 3 → ℕ) a + S1x512x768.size a ≤ S2x512x768.size a := by revert b; decide
theorem inbKV (b : Fin 2) : ∀ a, (![b.val, 0, 0, 0] : Fin 4 → ℕ) a + S1x512x8x64.size a ≤ S2x512x8x64.size a := by revert b; decide
theorem inbW (h : Fin 8) : ∀ a, (![64 * h.val, 0] : Fin 2 → ℕ) a + S64x768.size a ≤ S512x768.size a := by revert h; decide
theorem inbRow (r : Fin 2) : ∀ a, (![0, 0, r.val, 0] : Fin 4 → ℕ) a + S2x8x1x512.size a ≤ S2x8x2x512.size a := by revert r; decide
theorem inbRow' (k : Fin 3) (r : Fin 2) : ∀ a, (![k.val, 0, 0, r.val, 0] : Fin 5 → ℕ) a + S1x2x8x1x512.size a ≤ S3x2x8x2x512.size a := by revert k r; decide
theorem inbO (k : Fin 3) : ∀ a, (![k.val, 0, 0, 0, 0] : Fin 5 → ℕ) a + S1x2x8x512x64.size a ≤ S3x2x8x512x64.size a := by revert k; decide
theorem inbM (k : Fin 3) : ∀ a, (![k.val, 0, 0, 0, 0] : Fin 5 → ℕ) a + S1x2x8x2x512.size a ≤ S3x2x8x2x512.size a := by revert k; decide

/-- Batch row `b` of `x`. -/
def xRow (b : Fin 2) (x : Vec F S2x512x768 .bf16) : Vec F S1x512x768 .bf16 :=
  m0.view.readAt (Elt F) (Rect.unit (s := S2x512x768) ![b.val, 0, 0] S1x512x768.size (inbX b)).toLoadRect x
/-- All of `Wq`. -/
def wqAll (w : Vec F S768x512 .bf16) : Vec F S768x512 .bf16 :=
  m1.view.readAt (Elt F) (Rect.unit (s := S768x512) ![0, 0] S768x512.size inb_S768x512_S768x512_0_0).toLoadRect w
/-- Batch row `b` of a device's keys, and of its values. -/
def kRow (b : Fin 2) (k : Vec F S2x512x8x64 .bf16) : Vec F S1x512x8x64 .bf16 :=
  m2.view.readAt (Elt F) (Rect.unit (s := S2x512x8x64) ![b.val, 0, 0, 0] S1x512x8x64.size (inbKV b)).toLoadRect k
def vRow (b : Fin 2) (v : Vec F S2x512x8x64 .bf16) : Vec F S1x512x8x64 .bf16 :=
  m3.view.readAt (Elt F) (Rect.unit (s := S2x512x8x64) ![b.val, 0, 0, 0] S1x512x8x64.size (inbKV b)).toLoadRect v
/-- The 64 rows of `Wo` that belong to head `h`. -/
def woRow (h : Fin 8) (w : Vec F S512x768 .bf16) : Vec F S64x768 .bf16 :=
  m4.view.readAt (Elt F) (Rect.unit (s := S512x768) ![64 * h.val, 0] S64x768.size (inbW h)).toLoadRect w
/-- Row `r` (0: maxima, 1: sums) of an accumulator, and all of an accumulator of products. -/
def mlRow (r : Fin 2) (a : Vec F S2x8x2x512 .f32) : Vec F S2x8x1x512 .f32 :=
  m7.view.readAt (Elt F) (Rect.unit (s := S2x8x2x512) ![0, 0, r.val, 0] S2x8x1x512.size (inbRow r)).toLoadRect a
def oAll (o : Vec F S2x8x512x64 .bf16) : Vec F S2x8x512x64 .bf16 :=
  m6.view.readAt (Elt F) (Rect.unit (s := S2x8x512x64) ![0, 0, 0, 0] S2x8x512x64.size inb_S2x8x512x64_S2x8x512x64_0_0_0_0).toLoadRect o
/-- The same of the accumulators landed in exchange `k`. -/
def mlRow' (k : Fin 3) (r : Fin 2) (a : Vec F S2x8x2x512 .f32) : Vec F S1x2x8x1x512 .f32 :=
  m9.view.readAt (Elt F) (Rect.unit (s := S3x2x8x2x512) ![k.val, 0, 0, r.val, 0] S1x2x8x1x512.size (inbRow' k r)).toLoadRect (liftM a)
def oRow' (k : Fin 3) (a : Vec F S2x8x512x64 .bf16) : Vec F S1x2x8x512x64 .bf16 :=
  m8.view.readAt (Elt F) (Rect.unit (s := S3x2x8x512x64) ![k.val, 0, 0, 0, 0] S1x2x8x512x64.size (inbO k)).toLoadRect (liftO a)

/-! ## One head on one device -/

theorem slq (h : Fin 8) : S512x512.Slices ![0, 64 * h.val] S512x64 := by revert h; decide
theorem slk (h : Fin 8) : S512x8x64.Slices ![0, h.val, 0] S512x1x64 := by revert h; decide

/-- Head `h`'s 64 columns of the projected queries. -/
def qHead (q : FVec F S512x512 .bf16) (h : Fin 8) : FVec F S512x64 .bf16 := extractStridedSlice S512x64 ![0, 64 * h.val] q (slq h)
/-- Head `h` of the keys or values. -/
def kvHead (k : FVec F S512x8x64 .bf16) (h : Fin 8) : FVec F S512x64 .bf16 :=
  shapeCast S512x64 (extractStridedSlice S512x1x64 ![0, h.val, 0] k (slk h)) shapeCasts_S512x1x64_S512x64

/-- The scaled and masked scores of one head. -/
def scores (mask : IVec S512x512 1) (q k : FVec F S512x64 .bf16) : FVec F S512x512 .f32 :=
  select mask
    (mulf (matmul dot_S512x64_S512x64_S512x512_1_1_0_0_n_n none q k (constant S512x512 .f32 0x00000000#32))
      (broadcast S512x512 (Scalar.ofBits .f32 0x3E000000#32)))
    (broadcast S512x512 (Scalar.ofBits .f32 0xCE6E6B28#32))
/-- Their row maxima. -/
def rowMax (s : FVec F S512x512 .f32) : FVec F S512 .f32 := multiReduction .maximumf [1] S512 s 0xFF800000#32 reduces_S512x512_S512 (.inl rfl) rfl
/-- The exponentials of the scores less their row's maximum. -/
def weights (s : FVec F S512x512 .f32) : FVec F S512x512 .f32 :=
  exp (subf s (broadcastTo S512x512 (shapeCast S512x1 (rowMax s) shapeCasts_S512_S512x1) broadcasts_S512x1_S512x512))
/-- Their row sums. -/
def rowSum (p : FVec F S512x512 .f32) : FVec F S512 .f32 := multiReduction .add [1] S512 p 0x00000000#32 reduces_S512x512_S512 (.inl rfl) rfl
/-- Their product with the head's values. -/
def weighted (p : FVec F S512x512 .f32) (v : FVec F S512x64 .bf16) : FVec F S512x64 .bf16 :=
  truncf .bf16 (matmul dot_S512x512_S512x64_S512x64_1_0_0_1_n_n none (truncf .bf16 p bitsLt_bf16_f32) v (constant S512x64 .f32 0x00000000#32)) bitsLt_bf16_f32

/-- The scores of batch row `b`, head `h`, on the device with mask `mask`. -/
def headScores (mask : IVec S512x512 1) (x : Vec F S2x512x768 .bf16) (wq : Vec F S768x512 .bf16) (k : Vec F S2x512x8x64 .bf16) (b : Fin 2) (h : Fin 8) :
    FVec F S512x512 .f32 :=
  scores mask (qHead (k0_pay4 (k0_pay3 (wqAll wq)) (xRow b x)) h) (kvHead (k0_pay5 (kRow b k)) h)

/-- The accumulator of products after the local phase. -/
def locO (mask : IVec S512x512 1) (x : Vec F S2x512x768 .bf16) (wq : Vec F S768x512 .bf16) (k v : Vec F S2x512x8x64 .bf16) : Vec F S2x8x512x64 .bf16 :=
  fun y => shapeCast S1x1x512x64 (weighted (weights (headScores mask x wq k (y 0) (y 1))) (kvHead (k0_pay6 (vRow (y 0) v)) (y 1))) shapeCasts_S512x64_S1x1x512x64
    (ix4 (0 : Fin 1) (0 : Fin 1) (y 2) (y 3))
/-- The accumulator of maxima (row 0) and sums (row 1) after the local phase. -/
def locML (mask : IVec S512x512 1) (x : Vec F S2x512x768 .bf16) (wq : Vec F S768x512 .bf16) (k : Vec F S2x512x8x64 .bf16) : Vec F S2x8x2x512 .f32 :=
  fun y => if (y 2).val = 0 then shapeCast S1x1x1x512 (rowMax (headScores mask x wq k (y 0) (y 1))) shapeCasts_S512_S1x1x1x512 (ix4 (0 : Fin 1) (0 : Fin 1) (0 : Fin 1) (y 3))
    else shapeCast S1x1x1x512 (rowSum (weights (headScores mask x wq k (y 0) (y 1)))) shapeCasts_S512_S1x1x1x512 (ix4 (0 : Fin 1) (0 : Fin 1) (0 : Fin 1) (y 3))

/-! ## One exchange -/

/-- Maxima and sums after exchange `k`: own `a`, received `b`. -/
def stepML (k : Fin 3) (a b : Vec F S2x8x2x512 .f32) : Vec F S2x8x2x512 .f32 := fun y =>
  if (y 2).val = 0 then k0_pay131 (k0_pay128 (mlRow 0 a) (mlRow' k 0 b)) (ix4 (y 0) (y 1) (0 : Fin 1) (y 3))
  else k0_pay132 (k0_pay125 (mlRow 1 a)) (k0_pay127 (mlRow' k 1 b)) (k0_pay129 (mlRow 0 a) (mlRow' k 0 b)) (k0_pay130 (mlRow 0 a) (mlRow' k 0 b)) (ix4 (y 0) (y 1) (0 : Fin 1) (y 3))
/-- Products after exchange `k`: own `o`, received `r`, with the maxima before it. -/
def stepO (k : Fin 3) (a b : Vec F S2x8x2x512 .f32) (o r : Vec F S2x8x512x64 .bf16) : Vec F S2x8x512x64 .bf16 :=
  k0_pay133 (k0_pay129 (mlRow 0 a) (mlRow' k 0 b)) (k0_pay130 (mlRow 0 a) (mlRow' k 0 b)) (oAll o) (oRow' k r)

/-! ## All of it -/

set_option backward.proofsInPublic true in
/-- The device whose number differs from `c`'s in bit `k` only. -/
def prt (k : Fin 3) (c : Dev nD) : Dev nD := ⟨(c.val ^^^ (2 ^ k.val)) % 8, Nat.mod_lt _ (by decide)⟩

theorem prt_prt (k : Fin 3) (c : Dev nD) : prt k (prt k c) = c := by revert k c; decide

/-- The five operands' blocks on every device. -/
structure Args (F : FTy → Type) where
  x : Dev nD → Vec F S2x512x768 .bf16
  wq : Dev nD → Vec F S768x512 .bf16
  k : Dev nD → Vec F S2x512x8x64 .bf16
  v : Dev nD → Vec F S2x512x8x64 .bf16
  wo : Dev nD → Vec F S512x768 .bf16

variable (A : Args F)

/-- Device `c`'s maxima and sums after the local phase and after each exchange. -/
def accML0 (c : Dev nD) : Vec F S2x8x2x512 .f32 := locML (k0_pay2 c) (A.x c) (A.wq c) (A.k c)
def accML1 (c : Dev nD) : Vec F S2x8x2x512 .f32 := stepML 0 (accML0 A c) (accML0 A (prt 0 c))
def accML2 (c : Dev nD) : Vec F S2x8x2x512 .f32 := stepML 1 (accML1 A c) (accML1 A (prt 1 c))
def accML3 (c : Dev nD) : Vec F S2x8x2x512 .f32 := stepML 2 (accML2 A c) (accML2 A (prt 2 c))
/-- Its products after the local phase and after each exchange. -/
def accO0 (c : Dev nD) : Vec F S2x8x512x64 .bf16 := locO (k0_pay2 c) (A.x c) (A.wq c) (A.k c) (A.v c)
def accO1 (c : Dev nD) : Vec F S2x8x512x64 .bf16 := stepO 0 (accML0 A c) (accML0 A (prt 0 c)) (accO0 A c) (accO0 A (prt 0 c))
def accO2 (c : Dev nD) : Vec F S2x8x512x64 .bf16 := stepO 1 (accML1 A c) (accML1 A (prt 1 c)) (accO1 A c) (accO1 A (prt 1 c))
def accO3 (c : Dev nD) : Vec F S2x8x512x64 .bf16 := stepO 2 (accML2 A c) (accML2 A (prt 2 c)) (accO2 A c) (accO2 A (prt 2 c))

/-- What device `c` sends in exchange `k`. -/
def accML : Fin 3 → Dev nD → Vec F S2x8x2x512 .f32 | 0 => accML0 A | 1 => accML1 A | 2 => accML2 A
def accO : Fin 3 → Dev nD → Vec F S2x8x512x64 .bf16 | 0 => accO0 A | 1 => accO1 A | 2 => accO2 A

/-- The result from the final accumulators: batch row 0. -/
def out0 (o : Vec F S2x8x512x64 .bf16) (a : Vec F S2x8x2x512 .f32) (w : Vec F S512x768 .bf16) : FVec F S1x512x768 .f32 :=
  k0_pay157 (k0_pay153 (oAll o) (mlRow 1 a)) (k0_pay154 (oAll o) (mlRow 1 a) (woRow 0 w) (woRow 1 w) (woRow 2 w) (woRow 3 w)) (k0_pay155 (woRow 4 w)) (k0_pay156 (oAll o) (mlRow 1 a))
    (constant S512x768 .f32 0x00000000#32) (woRow 5 w) (woRow 6 w) (woRow 7 w)
/-- Batch row 1. -/
def out1 (o : Vec F S2x8x512x64 .bf16) (a : Vec F S2x8x2x512 .f32) (w : Vec F S512x768 .bf16) : FVec F S1x512x768 .f32 :=
  k0_pay1 (k0_pay153 (oAll o) (mlRow 1 a))
    (k0_pay160 (k0_pay153 (oAll o) (mlRow 1 a)) (k0_pay158 (k0_pay153 (oAll o) (mlRow 1 a)) (woRow 0 w) (woRow 1 w)) (k0_pay159 (woRow 2 w)) (woRow 3 w) (woRow 4 w) (woRow 5 w))
    (woRow 6 w) (woRow 7 w)
/-- What device `c` writes. -/
def outV (c : Dev nD) : Vec F S2x512x768 .f32 := fun y =>
  if (y 0).val = 0 then out0 (accO3 A c) (accML3 A c) (A.wo c) (ix3 (0 : Fin 1) (y 1) (y 2))
  else out1 (accO3 A c) (accML3 A c) (A.wo c) (ix3 (0 : Fin 1) (y 1) (y 2))

end Cert.Exchange

end
-- ==== Proof.Protocol.lean ====
/-
The protocol of the exchanges.

Device `c` talks to the three devices `prt k c`, `k = 0, 1, 2`. It has thirteen semaphores the exchanges use: the barrier
semaphore (cell 0), and for the products (`j = 0`) and the maxima and sums (`j = 1`) of exchange `k` a send semaphore (cell
`1 + 3 j + k`) and a receive semaphore (cell `7 + 3 j + k`). Each is used for one round. The barrier's round has three duties
of one unit, duty `k` paid by `prt k c`, which hands over its two landing slices of exchange `k`. A receive cell's one duty is
paid by the transfer of `prt k c` and hands over the landing slice holding that device's accumulator after `k` exchanges; a
send cell's is paid by the device's own transfer and hands the accumulator back.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The partners -/

theorem dev1_eq (c : Dev nD) : (⟨k0_dev1 c, k0_dev1_lt c⟩ : Dev nD) = prt 0 c := by revert c; decide
theorem dev2_eq (c : Dev nD) : (⟨k0_dev2 c, k0_dev2_lt c⟩ : Dev nD) = prt 1 c := by revert c; decide
theorem dev3_eq (c : Dev nD) : (⟨k0_dev3 c, k0_dev3_lt c⟩ : Dev nD) = prt 2 c := by revert c; decide
theorem dev4_eq (c : Dev nD) : (⟨k0_dev4 c, k0_dev4_lt c⟩ : Dev nD) = prt 0 c := by revert c; decide
theorem dev5_eq (c : Dev nD) : (⟨k0_dev5 c, k0_dev5_lt c⟩ : Dev nD) = prt 0 c := by revert c; decide
theorem dev6_eq (c : Dev nD) : (⟨k0_dev6 c, k0_dev6_lt c⟩ : Dev nD) = prt 1 c := by revert c; decide
theorem dev7_eq (c : Dev nD) : (⟨k0_dev7 c, k0_dev7_lt c⟩ : Dev nD) = prt 1 c := by revert c; decide
theorem dev8_eq (c : Dev nD) : (⟨k0_dev8 c, k0_dev8_lt c⟩ : Dev nD) = prt 2 c := by revert c; decide
theorem dev9_eq (c : Dev nD) : (⟨k0_dev9 c, k0_dev9_lt c⟩ : Dev nD) = prt 2 c := by revert c; decide

/-- Taking the partner of exchange `k` is a bijection of the devices. -/
def prtE (k : Fin 3) : Dev nD ≃ Dev nD := ⟨prt k, prt k, prt_prt k, prt_prt k⟩

/-! ## The buffers -/

/-- The landing slice of exchange `k` for products, and its region of the landing buffer. -/
abbrev rO (k : Fin 3) : Rect S3x2x8x512x64 := Rect.unit (s := S3x2x8x512x64) ![k.val, 0, 0, 0, 0] S1x2x8x512x64.size (inbO k)
abbrev slotO (k : Fin 3) : Memref sig .tc .vmem S2x8x512x64 .bf16 := (m8.slice (rO k) (fun _ => rfl)).squeeze S2x8x512x64 squeezes_S1x2x8x512x64_S2x8x512x64
/-- The landing slice of exchange `k` for maxima and sums, and its region of the landing buffer. -/
abbrev rM (k : Fin 3) : Rect S3x2x8x2x512 := Rect.unit (s := S3x2x8x2x512) ![k.val, 0, 0, 0, 0] S1x2x8x2x512.size (inbM k)
abbrev slotM (k : Fin 3) : Memref sig .tc .vmem S2x8x2x512 .f32 := (m9.slice (rM k) (fun _ => rfl)).squeeze S2x8x2x512 squeezes_S1x2x8x2x512_S2x8x2x512

/-! ## The cells -/

abbrev barS : Sem sig := (SemArray.scalar (sig.barrier 0 rfl) : Sems sig S_).sem

/-- The thirteen semaphores: the barrier's, six send, six receive. -/
abbrev csem : Fin 13 → SemLoc sig := fun i => if h : i.val = 0 then .reg barS else .dma ⟨5 + i.val, by have := i.isLt; show 5 + i.val < 18; omega⟩
abbrev kcell (ck : Dev nD × Fin 13) : GSem nD τ sig := ((ck.1 : Thread nD τ), csem ck.2)

/-- The send cell and the receive cell of exchange `k`: products `j = 0`, maxima and sums `j = 1`. -/
abbrev sI (j : Fin 2) (k : Fin 3) : Fin 13 := ⟨1 + 3 * j.val + k.val, by omega⟩
abbrev rI (j : Fin 2) (k : Fin 3) : Fin 13 := ⟨7 + 3 * j.val + k.val, by omega⟩
/-- Their semaphores. -/
abbrev sS (j : Fin 2) (k : Fin 3) : DmaSem sig := ⟨6 + 3 * j.val + k.val, by show _ < 18; omega⟩
abbrev rS (j : Fin 2) (k : Fin 3) : DmaSem sig := ⟨12 + 3 * j.val + k.val, by show _ < 18; omega⟩

theorem csem_sI (j : Fin 2) (k : Fin 3) : csem (sI j k) = .dma (sS j k) := by revert j k; decide
theorem csem_rI (j : Fin 2) (k : Fin 3) : csem (rI j k) = .dma (rS j k) := by revert j k; decide

abbrev barCell (c : Dev nD) : GSem nD τ sig := ((c : Thread nD τ), .reg barS)
abbrev sCell (j : Fin 2) (k : Fin 3) (c : Dev nD) : GSem nD τ sig := ((c : Thread nD τ), .dma (sS j k))
abbrev rCell (j : Fin 2) (k : Fin 3) (c : Dev nD) : GSem nD τ sig := ((c : Thread nD τ), .dma (rS j k))

theorem kcell_bar (c : Dev nD) : kcell (c, 0) = barCell c := rfl
theorem kcell_sI (j : Fin 2) (k : Fin 3) (c : Dev nD) : kcell (c, sI j k) = sCell j k c := by show (_, csem (sI j k)) = _; rw [csem_sI]
theorem kcell_rI (j : Fin 2) (k : Fin 3) (c : Dev nD) : kcell (c, rI j k) = rCell j k c := by show (_, csem (rI j k)) = _; rw [csem_rI]

/-- The credit of a block of products (`j = 0`) or of maxima and sums (`j = 1`). -/
def amt (j : Fin 2) : ℕ := if j = 0 then m6.view.dmaCredit else m7.view.dmaCredit
theorem amt_pos (j : Fin 2) : 0 < amt j := by
  unfold amt; split
  · exact View.dmaCredit_pos _ (by decide)
  · exact View.dmaCredit_pos _ (by decide)

/-! ## The payloads -/

variable (A : Args F)

def slotOPts (c : Dev nD) (k : Fin 3) (f : Buf (Elt F) (m8.view.loc (c : Thread nD τ))) : sProp 𝕄 := m8.view.loc (c : Thread nD τ) ↦[(slotO k).view.set]{fullShare} f
def slotMPts (c : Dev nD) (k : Fin 3) (f : Buf (Elt F) (m9.view.loc (c : Thread nD τ))) : sProp 𝕄 := m9.view.loc (c : Thread nD τ) ↦[(slotM k).view.set]{fullShare} f
def oPts (c : Dev nD) (f : Buf (Elt F) (m6.view.loc (c : Thread nD τ))) : sProp 𝕄 := m6.view.loc (c : Thread nD τ) ↦{fullShare} f
def mPts (c : Dev nD) (f : Buf (Elt F) (m7.view.loc (c : Thread nD τ))) : sProp 𝕄 := m7.view.loc (c : Thread nD τ) ↦{fullShare} f

instance slotOPts_storable (c : Dev nD) (k : Fin 3) (f) : BI.Storable (upEmb : UEmb _ 𝕄) (slotOPts (F := F) c k f) := by unfold slotOPts; infer_instance
instance slotMPts_storable (c : Dev nD) (k : Fin 3) (f) : BI.Storable (upEmb : UEmb _ 𝕄) (slotMPts (F := F) c k f) := by unfold slotMPts; infer_instance

/-- What `prt k c`'s signal hands `c`: that device's two landing slices of exchange `k`. -/
def barPay (c : Dev nD) (k : Fin 3) : sProp 𝕄 := iprop((∃ f, slotOPts (prt k c) k f) ∗ ∃ f, slotMPts (prt k c) k f)
/-- What the send and the receive cells hand over. -/
def sPay (j : Fin 2) (k : Fin 3) (c : Dev nD) : sProp 𝕄 := if j = 0 then oPts c (accO A k c) else mPts c (accML A k c)
def rPay (j : Fin 2) (k : Fin 3) (c : Dev nD) : sProp 𝕄 :=
  if j = 0 then slotOPts c k (liftO (accO A k (prt k c))) else slotMPts c k (liftM (accML A k (prt k c)))

instance barPay_storable (c : Dev nD) (k : Fin 3) : BI.Storable (upEmb : UEmb _ 𝕄) (barPay (F := F) c k) := by
  unfold barPay; infer_instance
instance sPay_storable (j : Fin 2) (k : Fin 3) (c : Dev nD) : BI.Storable (upEmb : UEmb _ 𝕄) (sPay A j k c) := by
  unfold sPay oPts mPts; split <;> infer_instance
instance rPay_storable (j : Fin 2) (k : Fin 3) (c : Dev nD) : BI.Storable (upEmb : UEmb _ 𝕄) (rPay A j k c) := by
  unfold rPay; split <;> infer_instance

/-- Which block and which exchange a transfer semaphore belongs to. -/
abbrev semJ (q : DmaSem sig) : Fin 2 := ⟨q.val / 3 % 2, Nat.mod_lt _ (by decide)⟩
abbrev semK (q : DmaSem sig) : Fin 3 := ⟨q.val % 3, Nat.mod_lt _ (by decide)⟩

theorem semJ_sS (j : Fin 2) (k : Fin 3) : semJ (sS j k) = j := by revert j k; decide
theorem semK_sS (j : Fin 2) (k : Fin 3) : semK (sS j k) = k := by revert j k; decide
theorem semJ_rS (j : Fin 2) (k : Fin 3) : semJ (rS j k) = j := by revert j k; decide
theorem semK_rS (j : Fin 2) (k : Fin 3) : semK (rS j k) = k := by revert j k; decide

def dmaPay (c : Dev nD) (q : DmaSem sig) : sProp 𝕄 := if q.val < 12 then sPay A (semJ q) (semK q) c else rPay A (semJ q) (semK q) c
instance dmaPay_storable (c : Dev nD) (q : DmaSem sig) : BI.Storable (upEmb : UEmb _ 𝕄) (dmaPay A c q) := by
  unfold dmaPay; split <;> infer_instance

/-! ## The schedule -/

def semDuties : SemLoc sig → Finset (Fin 3)
  | .reg _ => Finset.univ
  | .dma q => if 6 ≤ q.val then {0} else ∅
def semAmount : SemLoc sig → ℕ
  | .reg _ => 1
  | .dma q => amt (semJ q)
def semPay (c : Dev nD) (d : Fin 3) : SemLoc sig → sProp 𝕄
  | .reg _ => barPay c d
  | .dma q => dmaPay A c q
instance semPay_storable (c : Dev nD) (d : Fin 3) (s : SemLoc sig) : BI.Storable (upEmb : UEmb _ 𝕄) (semPay A c d s) := by
  cases s <;> (unfold semPay; infer_instance)

def xRd : Rounds.Schedule (GSem nD τ sig) (Fin 3) 𝕄 where
  duties g r := if r = 0 ∧ g.1.2 = .tc then semDuties g.2 else ∅
  unitless _ := False
  amount g _ _ := semAmount g.2
  payload g _ d := semPay A g.1.1 d g.2
  amount_pos g _ _ _ := by
    rcases g with ⟨_, s | q⟩
    · exact Nat.one_pos
    · exact amt_pos _

instance xRd_payload_storable (g : GSem nD τ sig) (r : ℕ) (d : Fin 3) : BI.Storable (upEmb : UEmb _ 𝕄) ((xRd A).payload g r d) := semPay_storable A g.1.1 d g.2

section Sched
variable (c : Dev nD) (j : Fin 2) (k : Fin 3)

theorem duties_bar : (xRd A).duties (barCell c) 0 = Finset.univ := by dsimp only [xRd]; exact if_pos ⟨rfl, rfl⟩
theorem duties_s : (xRd A).duties (sCell j k c) 0 = {0} := by
  dsimp only [xRd]; exact (if_pos ⟨rfl, rfl⟩).trans (if_pos (by show 6 ≤ 6 + 3 * j.val + k.val; omega))
theorem duties_r : (xRd A).duties (rCell j k c) 0 = {0} := by
  dsimp only [xRd]; exact (if_pos ⟨rfl, rfl⟩).trans (if_pos (by show 6 ≤ 12 + 3 * j.val + k.val; omega))
theorem duties_later (g : GSem nD τ sig) : ∀ r, 1 ≤ r → (xRd A).duties g r = ∅ := by
  intro r hr; dsimp only [xRd]; exact if_neg fun h => by omega

theorem amount_bar (d : Fin 3) : (xRd A).amount (barCell c) 0 d = 1 := rfl
theorem amount_s (d : Fin 3) : (xRd A).amount (sCell j k c) 0 d = amt j := congrArg amt (semJ_sS j k)
theorem amount_r (d : Fin 3) : (xRd A).amount (rCell j k c) 0 d = amt j := congrArg amt (semJ_rS j k)

theorem expect_bar : (xRd A).expect (barCell c) 0 = 3 := by
  unfold Schedule.expect Schedule.amountOf
  rw [duties_bar, Finset.sum_congr rfl fun d _ => amount_bar A c d, Finset.sum_const, Finset.card_univ, Fintype.card_fin, smul_eq_mul]
theorem expect_s : (xRd A).expect (sCell j k c) 0 = amt j := by
  unfold Schedule.expect Schedule.amountOf; rw [duties_s, Finset.sum_singleton, amount_s]
theorem expect_r : (xRd A).expect (rCell j k c) 0 = amt j := by
  unfold Schedule.expect Schedule.amountOf; rw [duties_r, Finset.sum_singleton, amount_r]

theorem payload_bar (d : Fin 3) : (xRd A).payload (barCell c) 0 d = barPay c d := rfl
theorem payload_s (d : Fin 3) : (xRd A).payload (sCell j k c) 0 d = sPay A j k c := by
  refine (if_pos (by show 6 + 3 * j.val + k.val < 12; omega)).trans ?_; rw [semJ_sS, semK_sS]
theorem payload_r (d : Fin 3) : (xRd A).payload (rCell j k c) 0 d = rPay A j k c := by
  refine (if_neg (by show ¬ 12 + 3 * j.val + k.val < 12; omega)).trans ?_; rw [semJ_rS, semK_rS]

theorem rest_bar : bigSep ((xRd A).duties (barCell c) 0 \ ∅) (fun d => (xRd A).payload (barCell c) 0 d) = iprop(barPay c 0 ∗ barPay c 1 ∗ barPay c 2) := by
  rw [Finset.sdiff_empty, duties_bar, bigSep_univ_eq_bigSepL [0, 1, 2] (by decide) (by decide)]; rfl
theorem rest_s : bigSep ((xRd A).duties (sCell j k c) 0 \ ∅) (fun d => (xRd A).payload (sCell j k c) 0 d) = sPay A j k c := by
  rw [Finset.sdiff_empty, duties_s, bigSep_singleton, payload_s]
theorem rest_r : bigSep ((xRd A).duties (rCell j k c) 0 \ ∅) (fun d => (xRd A).payload (rCell j k c) 0 d) = rPay A j k c := by
  rw [Finset.sdiff_empty, duties_r, bigSep_singleton, payload_r]

end Sched

/-! ## What each device owes; the levels -/

/-- The sum of a list of debts; the head is the last summand. -/
def oweL : List (GSem nD τ sig × ℕ) → CellTallies nD τ sig Unit
  | [] => 0
  | p :: t => oweL t + tallyAt p.1 () p.2

/-- The transfers device `c` makes, in order. -/
abbrev dueR (j : Fin 2) (k : Fin 3) (c : Dev nD) : GSem nD τ sig × ℕ := (rCell j k (prt k c), amt j)
abbrev dues6 (c : Dev nD) : List (GSem nD τ sig × ℕ) := [dueR 0 0 c, dueR 1 0 c, dueR 0 1 c, dueR 1 1 c, dueR 0 2 c, dueR 1 2 c]
/-- All it owes: a unit to each partner's barrier, then the transfers. -/
abbrev dues (c : Dev nD) : List (GSem nD τ sig × ℕ) := (barCell (prt 0 c), 1) :: (barCell (prt 1 c), 1) :: (barCell (prt 2 c), 1) :: dues6 c
def O₀ (c : Dev nD) : CellTallies nD τ sig Unit := oweL (dues c)

theorem oweL_pos {l : List (GSem nD τ sig × ℕ)} {g : GSem nD τ sig} {u : Unit} (h : 0 < oweL l g u) : ∃ p ∈ l, p.1 = g := by
  induction l with
  | nil => exact absurd h (Nat.lt_irrefl 0)
  | cons p t ih =>
    unfold oweL at h
    rw [Pi.add_apply, Finsupp.add_apply, tallyAt_apply] at h
    by_cases hg : g = p.1
    · exact ⟨p, List.mem_cons_self, hg.symm⟩
    · rw [if_neg (fun h' => hg h'.1)] at h
      obtain ⟨p', hp', he⟩ := ih h
      exact ⟨p', List.mem_cons_of_mem _ hp', he⟩

def L (g : GSem nD τ sig) : Finset Unit := if g.1.2 = .tc then {()} else ∅
/-- Staging and send cells at 0, barrier cells at 1, the receive cells of exchange `k` at `2 + k`. -/
def semLv : SemLoc sig → ℕ
  | .reg _ => 1
  | .dma q => if q.val < 12 then 0 else 2 + q.val % 3
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

/-- A wait is allowed when every debt lies above the cell waited on. -/
theorem mayWait_of (c : Dev nD) (sm : SemLoc sig) (l : List (GSem nD τ sig × ℕ)) (h : ∀ p ∈ l, p.1.1.2 = .tc ∧ semLv sm < semLv p.1.2) :
    (levAts L lv : sProp 𝕄) ⊢ MayWait (c : Thread nD τ) sm () (oweL l) :=
  MayOwe.of_cut (L := L) (lev := lv) (semLv sm) (fun p hp => by rw [Finset.mem_singleton.mp hp, L_tc]; exact Finset.mem_singleton_self _)
    (fun g u hg => by
      obtain ⟨p, hp, rfl⟩ := oweL_pos hg
      unfold L; rw [if_pos (h p hp).1]; exact Finset.mem_singleton_self _)
    (fun p hp => by rw [Finset.mem_singleton.mp hp]; exact le_refl _)
    (fun g u hg => by
      obtain ⟨p, hp, rfl⟩ := oweL_pos hg
      exact (h p hp).2)

/-- A device's debts with the waits it has recorded left unnamed. -/
def owesA (c : Dev nD) (O : CellTallies nD τ sig Unit) : sProp 𝕄 := iprop(∃ W, owes (c : Thread nD τ) O W)

/-! ## The ghost state a device starts from -/

variable (K : Dev nD × Fin 13 → ℕ)

/-- Every cell's invariant, and that every cell has reached round 0. -/
def records : sProp 𝕄 :=
  iprop((bigSep Finset.univ fun ck : Dev nD × Fin 13 => cellInv ER (xRd A) (K ck) (kcell ck))
    ∗ bigSep Finset.univ fun ck : Dev nD × Fin 13 => reached ER (kcell ck) 0)
instance records_persistent : BI.Persistent (records A K) := by unfold records; infer_instance

theorem inv_at (ck : Dev nD × Fin 13) : records A K ⊢ cellInv ER (xRd A) (K ck) (kcell ck) := by
  unfold records; iintro ⟨H, -⟩; iapply (show _ ⊢ _ from bigSep_elim (Φ := fun ck : Dev nD × Fin 13 => (cellInv ER (xRd A) (K ck) (kcell ck) : sProp 𝕄)) (Finset.mem_univ ck)); iexact H
theorem reached_at (ck : Dev nD × Fin 13) : records A K ⊢ reached ER (kcell ck) 0 := by
  unfold records; iintro ⟨-, H⟩; iapply (show _ ⊢ _ from bigSep_elim (Φ := fun ck : Dev nD × Fin 13 => (reached ER (kcell ck) 0 : sProp 𝕄)) (Finset.mem_univ ck)); iexact H

theorem inv_bar (c : Dev nD) : records A K ⊢ cellInv ER (xRd A) (K (c, 0)) (barCell c) := inv_at A K (c, 0)
theorem inv_s (j : Fin 2) (k : Fin 3) (c : Dev nD) : records A K ⊢ cellInv ER (xRd A) (K (c, sI j k)) (sCell j k c) := by
  have := inv_at A K (c, sI j k); rwa [kcell_sI] at this
theorem inv_r (j : Fin 2) (k : Fin 3) (c : Dev nD) : records A K ⊢ cellInv ER (xRd A) (K (c, rI j k)) (rCell j k c) := by
  have := inv_at A K (c, rI j k); rwa [kcell_rI] at this
theorem reached_bar (c : Dev nD) : records A K ⊢ reached ER (barCell c) 0 := reached_at A K (c, 0)
theorem reached_s (j : Fin 2) (k : Fin 3) (c : Dev nD) : records A K ⊢ reached ER (sCell j k c) 0 := by
  have := reached_at A K (c, sI j k); rwa [kcell_sI] at this
theorem reached_r (j : Fin 2) (k : Fin 3) (c : Dev nD) : records A K ⊢ reached ER (rCell j k c) 0 := by
  have := reached_at A K (c, rI j k); rwa [kcell_rI] at this

/-- The tokens of exchange `k`'s duties device `c` pays: its two sends and its partner's two receives. -/
def xToks (k : Fin 3) (c : Dev nD) : sProp 𝕄 :=
  iprop(dutyTok ER (barCell (prt k c)) 0 k ∗ dutyTok ER (sCell 0 k c) 0 0 ∗ dutyTok ER (sCell 1 k c) 0 0
    ∗ dutyTok ER (rCell 0 k (prt k c)) 0 0 ∗ dutyTok ER (rCell 1 k (prt k c)) 0 0)
/-- Device `c`'s positions at the four cells of exchange `k`. -/
def xPos (k : Fin 3) (c : Dev nD) : sProp 𝕄 :=
  iprop(atPos ER (sCell 0 k c) 0 ∅ 0 ∗ atPos ER (sCell 1 k c) 0 ∅ 0 ∗ atPos ER (rCell 0 k c) 0 ∅ 0 ∗ atPos ER (rCell 1 k c) 0 ∅ 0)
/-- Its four cells of exchange `k`, closed. -/
def xDone (k : Fin 3) (c : Dev nD) : sProp 𝕄 :=
  iprop(semVal (sCell 0 k c) 0 ∗ semVal (sCell 1 k c) 0 ∗ semVal (rCell 0 k c) 0 ∗ semVal (rCell 1 k c) 0)
/-- The credit of its two receives of exchange `k`. -/
def xCred (k : Fin 3) (c : Dev nD) : sProp 𝕄 := iprop(cred (tallyAt (rCell 0 k c) () (amt 0)) ∗ cred (tallyAt (rCell 1 k c) () (amt 1)))

def linear (c : Dev nD) : sProp 𝕄 :=
  iprop(atPos ER (barCell c) 0 ∅ 0 ∗ (xPos 0 c ∗ xPos 1 c ∗ xPos 2 c) ∗ (xToks 0 c ∗ xToks 1 c ∗ xToks 2 c))
def creds (c : Dev nD) : sProp 𝕄 := iprop(cred (tallyAt (barCell c) () 3) ∗ xCred 0 c ∗ xCred 1 c ∗ xCred 2 c)
/-- What device `c`'s body starts from. -/
def start (c : Dev nD) : sProp 𝕄 := iprop((∃ K, records A K ∗ linear c) ∗ creds c ∗ levAts L lv)

end Cert.Exchange

end
-- ==== Proof.Steps.lean ====
/-
The synchronising steps of the kernel, one rule each: the signal to a partner, the barrier wait, the two transfers of an
exchange and the waits on its four semaphores; and the landing buffers cut into their three slices.
-/
module

public import proofs.«01_k».proof.Proof.Protocol
public import Idealize.ShloMosaic.Lib.Ring
public import Idealize.ShloMosaic.Lib.Writes
public import Idealize.ShloMosaic.Lib.ValueLayout

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The landing slices -/

/-- Where element `x` of slice `k` lies in the landing buffer. -/
theorem slotO_emb (k : Fin 3) (x : S2x8x512x64.Idx) : (slotO k).view.emb x = (ix5 k (x 0) (x 1) (x 2) (x 3) : S3x2x8x512x64.Idx) := by
  show (rO k).emb (Shape.reshapeEquiv (s := S1x2x8x512x64) (s' := S2x8x512x64) _ x) = _
  rw [Shape.reshapeEquiv_cons_one]
  funext a; apply Fin.ext
  match a with
  | ⟨0, _⟩ => show k.val + 1 * 0 = k.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega
  | ⟨4, _⟩ => show 0 + 1 * (x 3).val = (x 3).val; omega
/-- The same of receive slot `k` for maxima and sums. -/
theorem slotM_emb (k : Fin 3) (x : S2x8x2x512.Idx) : (slotM k).view.emb x = (ix5 k (x 0) (x 1) (x 2) (x 3) : S3x2x8x2x512.Idx) := by
  show (rM k).emb (Shape.reshapeEquiv (s := S1x2x8x2x512) (s' := S2x8x2x512) _ x) = _
  rw [Shape.reshapeEquiv_cons_one]
  funext a; apply Fin.ext
  match a with
  | ⟨0, _⟩ => show k.val + 1 * 0 = k.val; omega
  | ⟨1, _⟩ => show 0 + 1 * (x 0).val = (x 0).val; omega
  | ⟨2, _⟩ => show 0 + 1 * (x 1).val = (x 1).val; omega
  | ⟨3, _⟩ => show 0 + 1 * (x 2).val = (x 2).val; omega
  | ⟨4, _⟩ => show 0 + 1 * (x 3).val = (x 3).val; omega

/-- Slot `k` is the part of the receive buffer with first coordinate `k`. -/
theorem mem_slotO (k : Fin 3) (i : S3x2x8x512x64.Idx) : i ∈ (slotO k).view.set ↔ i 0 = k := by
  constructor
  · intro h
    obtain ⟨x, -, rfl⟩ := Finset.mem_map.mp h
    rw [slotO_emb]
  · rintro h
    refine Finset.mem_map.mpr ⟨(ix4 (i 1) (i 2) (i 3) (i 4) : S2x8x512x64.Idx), Finset.mem_univ _, ?_⟩
    rw [slotO_emb, ← h]; exact (eq_ix5 i).symm
/-- The same for maxima and sums. -/
theorem mem_slotM (k : Fin 3) (i : S3x2x8x2x512.Idx) : i ∈ (slotM k).view.set ↔ i 0 = k := by
  constructor
  · intro h
    obtain ⟨x, -, rfl⟩ := Finset.mem_map.mp h
    rw [slotM_emb]
  · rintro h
    refine Finset.mem_map.mpr ⟨(ix4 (i 1) (i 2) (i 3) (i 4) : S2x8x2x512.Idx), Finset.mem_univ _, ?_⟩
    rw [slotM_emb, ← h]; exact (eq_ix5 i).symm

/-- The entries of slot `k`, in either receive buffer. -/
abbrev setO (k : Fin 3) : Finset S3x2x8x512x64.Idx := (slotO k).view.set
abbrev setM (k : Fin 3) : Finset S3x2x8x2x512.Idx := (slotM k).view.set

/-- The three slots are disjoint and cover their buffer. -/
theorem slotO_disj (k k' : Fin 3) (h : k ≠ k') : Disjoint (setO k) (setO k') :=
  Finset.disjoint_left.mpr fun i hi hi' => h (((mem_slotO k i).mp hi).symm.trans ((mem_slotO k' i).mp hi'))
theorem slotM_disj (k k' : Fin 3) (h : k ≠ k') : Disjoint (setM k) (setM k') :=
  Finset.disjoint_left.mpr fun i hi hi' => h (((mem_slotM k i).mp hi).symm.trans ((mem_slotM k' i).mp hi'))
theorem slotO_cover : Finset.univ.biUnion setO = Finset.univ :=
  Finset.eq_univ_iff_forall.mpr fun i => Finset.mem_biUnion.mpr ⟨i 0, Finset.mem_univ _, (mem_slotO _ i).mpr rfl⟩
theorem slotM_cover : Finset.univ.biUnion setM = Finset.univ :=
  Finset.eq_univ_iff_forall.mpr fun i => Finset.mem_biUnion.mpr ⟨i 0, Finset.mem_univ _, (mem_slotM _ i).mpr rfl⟩

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- A landing buffer is its three slices. -/
theorem split_O (c : Dev nD) (f : Buf (Elt F) (m8.view.loc (c : Thread nD τ))) :
    (m8.view.loc (c : Thread nD τ) ↦{fullShare} f : sProp 𝕄) = iprop(slotOPts c 0 f ∗ slotOPts c 1 f ∗ slotOPts c 2 f) := by
  rw [Ring.pointsTo_blocks setO slotO_disj slotO_cover, bigSep_fin3]; rfl
/-- The same for maxima and sums. -/
theorem split_M (c : Dev nD) (f : Buf (Elt F) (m9.view.loc (c : Thread nD τ))) :
    (m9.view.loc (c : Thread nD τ) ↦{fullShare} f : sProp 𝕄) = iprop(slotMPts c 0 f ∗ slotMPts c 1 f ∗ slotMPts c 2 f) := by
  rw [Ring.pointsTo_blocks setM slotM_disj slotM_cover, bigSep_fin3]; rfl
/-- Its three slices, whatever they hold, are the buffer holding something. -/
theorem join_O (c : Dev nD) (f0 f1 f2 : Buf (Elt F) (m8.view.loc (c : Thread nD τ))) :
    iprop(slotOPts c 0 f0 ∗ slotOPts c 1 f1 ∗ slotOPts c 2 f2) ⊢ (iprop(∃ g, m8.view.loc (c : Thread nD τ) ↦{fullShare} g) : sProp 𝕄) := by
  refine .trans (Entails.of_eq ?_) (Ring.pointsTo_blocks_join setO slotO_disj slotO_cover (fun k => if k = 0 then f0 else if k = 1 then f1 else f2) f0)
  rw [bigSep_fin3]; rfl
/-- The same for maxima and sums. -/
theorem join_M (c : Dev nD) (f0 f1 f2 : Buf (Elt F) (m9.view.loc (c : Thread nD τ))) :
    iprop(slotMPts c 0 f0 ∗ slotMPts c 1 f1 ∗ slotMPts c 2 f2) ⊢ (iprop(∃ g, m9.view.loc (c : Thread nD τ) ↦{fullShare} g) : sProp 𝕄) := by
  refine .trans (Entails.of_eq ?_) (Ring.pointsTo_blocks_join setM slotM_disj slotM_cover (fun k => if k = 0 then f0 else if k = 1 then f1 else f2) f0)
  rw [bigSep_fin3]; rfl

/-- The accumulator landed in slice `k`. -/
theorem landed_O (c : Dev nD) (k : Fin 3) (fd : Buf (Elt F) (m8.view.loc (c : Thread nD τ))) (a : Vec F S2x8x512x64 .bf16) :
    ((slotO k).view.loc (c : Thread nD τ) ↦[(slotO k).view.set]{fullShare} (slotO k).view.write (Elt F) fd (m6.view.read (Elt F) a) Finset.univ : sProp 𝕄)
      = slotOPts c k (liftO a) := by
  unfold slotOPts
  refine pointsTo_congr fun i hi => ?_
  obtain ⟨x, -, rfl⟩ := Finset.mem_map.mp hi
  refine ((slotO k).view.write_emb_of_mem (Val := Elt F) fd _ (Finset.mem_univ x)).trans ?_
  show a x = liftO a ((slotO k).view.emb x)
  rw [slotO_emb]; exact congrArg a (eq_ix4 x)
/-- The same for maxima and sums. -/
theorem landed_M (c : Dev nD) (k : Fin 3) (fd : Buf (Elt F) (m9.view.loc (c : Thread nD τ))) (a : Vec F S2x8x2x512 .f32) :
    ((slotM k).view.loc (c : Thread nD τ) ↦[(slotM k).view.set]{fullShare} (slotM k).view.write (Elt F) fd (m7.view.read (Elt F) a) Finset.univ : sProp 𝕄)
      = slotMPts c k (liftM a) := by
  unfold slotMPts
  refine pointsTo_congr fun i hi => ?_
  obtain ⟨x, -, rfl⟩ := Finset.mem_map.mp hi
  refine ((slotM k).view.write_emb_of_mem (Val := Elt F) fd _ (Finset.mem_univ x)).trans ?_
  show a x = liftM a ((slotM k).view.emb x)
  rw [slotM_emb]; exact congrArg a (eq_ix4 x)

/-- What a copy credits, by the kind of its buffer. -/
theorem credit_slotO (k : Fin 3) : (slotO k).view.dmaCredit = amt 0 := by unfold amt; rw [if_pos rfl]
theorem credit_slotM (k : Fin 3) : (slotM k).view.dmaCredit = amt 1 := by unfold amt; rw [if_neg (by decide)]
theorem credit_O : m6.view.dmaCredit = amt 0 := by unfold amt; rw [if_pos rfl]
theorem credit_M : m7.view.dmaCredit = amt 1 := by unfold amt; rw [if_neg (by decide)]

/-! ## The rules -/

variable (A : Args F) (K : Dev nD × Fin 13 → ℕ)

/-- The signal to the partner of exchange `k`: it hands over the two landing slices of exchange `k`. -/
theorem wp_sig (k : Fin 3) (c n : Dev nD) (hn : n = prt k c) (l : List (GSem nD τ sig × ℕ)) {u : ℕ} (hu : u = 1)
    {α : Type} {Q : α → sProp 𝕄} {kt : PUnit → Prog (TpuEff nD τ sig (Elt F) Λ₀ .tc) α}
    (fO : Buf (Elt F) (m8.view.loc (c : Thread nD τ))) (fM : Buf (Elt F) (m9.view.loc (c : Thread nD τ))) :
    iprop(records A K ∗ owesA c (oweL ((barCell (prt k c), 1) :: l)) ∗ dutyTok ER (barCell (prt k c)) 0 k ∗ slotOPts c k fO ∗ slotMPts c k fM)
      ⊢ iprop((owesA c (oweL l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal (Dev.tc n : Thread nD τ) barS u) kt) Q) := by
  subst hn; subst hu
  unfold owesA
  iintro ⟨#HR, ⟨%W, HO⟩, Ht, HsO, HsM⟩ Hk
  iapply (Rounds.wp_signal 𝒱₀ ER (xRd A) (c : Thread nD τ) none (dst := (prt k c : Thread nD τ)) (κ := K (prt k c, 0))
      (d := k) (by rw [duties_bar]; exact Finset.mem_univ _) (amount_bar A (prt k c) k) () (oweL l) rfl) $$ [HO Ht HsO HsM]
  · isplitr; · iapply (inv_bar A K (prt k c)); iexact HR
    isplitl [HO]; · iexact HO
    isplitl [Ht]; · iexact Ht
    isplitl [HsO HsM]
    · rw [payload_bar]; unfold barPay; rw [prt_prt]
      isplitl [HsO]; · iexists fO; iexact HsO
      iexists fM; iexact HsM
    · iapply (reached_bar A K (prt k c)); iexact HR
  iintro HO
  iapply Hk
  iexists W; iexact HO

/-- The barrier wait: the partners' landing slices come with it, and the cell closes. -/
theorem wp_bar (c : Dev nD) (l : List (GSem nD τ sig × ℕ)) (hl : ∀ p ∈ l, p.1.1.2 = .tc ∧ 1 < semLv p.1.2) {u : ℕ} (hu : u = 3)
    {α : Type} {Q : α → sProp 𝕄} {kt : PUnit → Prog (TpuEff nD τ sig (Elt F) Λ₀ .tc) α} :
    iprop(records A K ∗ levAts L lv ∗ cred (tallyAt (barCell c) () 3) ∗ owesA c (oweL l) ∗ atPos ER (barCell c) 0 ∅ 0)
      ⊢ iprop(((owesA c (oweL l) ∗ (barPay c 0 ∗ barPay c 1 ∗ barPay c 2) ∗ semVal (barCell c) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS u) kt) Q) := by
  subst hu
  unfold owesA
  iintro ⟨#HR, #Hlev, Hc, ⟨%W, HO⟩, Hat⟩ Hk
  iapply (Rounds.wp_wait_rest_token 𝒱₀ ER (xRd A) (c : Thread nD τ) none (κ := K (c, 0))
      (wpE_semWait_eq 𝒱₀ (c : Thread nD τ) none Set.univ) (Set.mem_univ _) () (O := oweL l) (W := W) (R := 0) (m := 0) (T := ∅)
      (by rw [expect_bar])) $$ [Hc HO Hat]
  · isplitr; · iapply (inv_bar A K c); iexact HR
    isplitl [Hc]; · iexact Hc
    isplitl [HO]; · iexact HO
    isplitr; · iapply (mayWait_of c (.reg barS) l hl); iexact Hlev
    iexact Hat
  iintro ⟨HO, Hat, -, Hpay⟩
  imod (Rounds.cell_close ER (xRd A) (Set.mem_univ (K (c, 0))) (fun h => h) (R := 0 + 1) (duties_later A (barCell c))) $$ [Hat] with Hz
  · isplitr; · iapply (inv_bar A K c); iexact HR
    iexact Hat
  iapply Hk
  isplitl [HO]; · iexists _; iexact HO
  isplitl [Hpay]; · iapply (Entails.of_eq (rest_bar A c)); iexact Hpay
  iexact Hz

/-- A wait on one of the device's own send cells. -/
theorem wp_wait_s (j : Fin 2) (k : Fin 3) (c : Dev nD) (l : List (GSem nD τ sig × ℕ)) (hl : ∀ p ∈ l, p.1.1.2 = .tc ∧ semLv (.dma (sS j k)) < semLv p.1.2)
    (q : DmaSem sig) (hq : q = sS j k) {sp sp' : Space} {s s' : Shape} {e e' : EltTy} {κ' : Kind}
    {src : Memref sig .tc sp' s' e'} {dst : Memref sig κ' sp s e} {hsrc : src.view.WordExact} {hdst : dst.view.WordExact} (hN : dst.view.dmaCredit = amt j)
    {α : Type} {Q : α → sProp 𝕄} {kt : PUnit → Prog (TpuEff nD τ sig (Elt F) Λ₀ .tc) α} :
    iprop(records A K ∗ levAts L lv ∗ cred (tallyAt (sCell j k c) () (amt j)) ∗ owesA c (oweL l) ∗ atPos ER (sCell j k c) 0 ∅ 0)
      ⊢ iprop(((owesA c (oweL l) ∗ sPay A j k c ∗ semVal (sCell j k c) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold owesA
  iintro ⟨#HR, #Hlev, Hc, ⟨%W, HO⟩, Hat⟩ Hk
  rw [← hN]
  iapply (Rounds.wp_wait_rest_token 𝒱₀ ER (xRd A) (c : Thread nD τ) none (κ := K (c, sI j k))
      (wpE_waitDma2_eq 𝒱₀ (c : Thread nD τ) none Set.univ) (Set.mem_univ _) () (O := oweL l) (W := W) (R := 0) (m := 0) (T := ∅)
      (by rw [Nat.zero_add, expect_s, hN])) $$ [Hc HO Hat]
  · isplitr; · iapply (inv_s A K j k c); iexact HR
    isplitl [Hc]; · iexact Hc
    isplitl [HO]; · iexact HO
    isplitr; · iapply (mayWait_of c (.dma (sS j k)) l hl); iexact Hlev
    iexact Hat
  iintro ⟨HO, Hat, -, Hpay⟩
  imod (Rounds.cell_close ER (xRd A) (Set.mem_univ (K (c, sI j k))) (fun h => h) (R := 0 + 1) (duties_later A (sCell j k c))) $$ [Hat] with Hz
  · isplitr; · iapply (inv_s A K j k c); iexact HR
    iexact Hat
  iapply Hk
  isplitl [HO]; · iexists _; iexact HO
  isplitl [Hpay]; · iapply (Entails.of_eq (rest_s A c j k)); iexact Hpay
  iexact Hz

/-- A wait on one of its own receive cells. -/
theorem wp_wait_r (j : Fin 2) (k : Fin 3) (c : Dev nD) (l : List (GSem nD τ sig × ℕ)) (hl : ∀ p ∈ l, p.1.1.2 = .tc ∧ semLv (.dma (rS j k)) < semLv p.1.2)
    (q : DmaSem sig) (hq : q = rS j k) {sp sp' : Space} {s s' : Shape} {e e' : EltTy} {κ' : Kind}
    {src : Memref sig .tc sp' s' e'} {dst : Memref sig κ' sp s e} {hsrc : src.view.WordExact} {hdst : dst.view.WordExact} (hN : dst.view.dmaCredit = amt j)
    {α : Type} {Q : α → sProp 𝕄} {kt : PUnit → Prog (TpuEff nD τ sig (Elt F) Λ₀ .tc) α} :
    iprop(records A K ∗ levAts L lv ∗ cred (tallyAt (rCell j k c) () (amt j)) ∗ owesA c (oweL l) ∗ atPos ER (rCell j k c) 0 ∅ 0)
      ⊢ iprop(((owesA c (oweL l) ∗ rPay A j k c ∗ semVal (rCell j k c) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hq
  unfold owesA
  iintro ⟨#HR, #Hlev, Hc, ⟨%W, HO⟩, Hat⟩ Hk
  rw [← hN]
  iapply (Rounds.wp_wait_rest_token 𝒱₀ ER (xRd A) (c : Thread nD τ) none (κ := K (c, rI j k))
      (wpE_waitDma2_eq 𝒱₀ (c : Thread nD τ) none Set.univ) (Set.mem_univ _) () (O := oweL l) (W := W) (R := 0) (m := 0) (T := ∅)
      (by rw [Nat.zero_add, expect_r, hN])) $$ [Hc HO Hat]
  · isplitr; · iapply (inv_r A K j k c); iexact HR
    isplitl [Hc]; · iexact Hc
    isplitl [HO]; · iexact HO
    isplitr; · iapply (mayWait_of c (.dma (rS j k)) l hl); iexact Hlev
    iexact Hat
  iintro ⟨HO, Hat, -, Hpay⟩
  imod (Rounds.cell_close ER (xRd A) (Set.mem_univ (K (c, rI j k))) (fun h => h) (R := 0 + 1) (duties_later A (rCell j k c))) $$ [Hat] with Hz
  · isplitr; · iapply (inv_r A K j k c); iexact HR
    iexact Hat
  iapply Hk
  isplitl [HO]; · iexists _; iexact HO
  isplitl [Hpay]; · iapply (Entails.of_eq (rest_r A c j k)); iexact Hpay
  iexact Hz

/-- The transfer of the products in exchange `k`. -/
theorem wp_send_O (k : Fin 3) (c n : Dev nD) (hn : n = prt k c) (l : List (GSem nD τ sig × ℕ)) (q q' : DmaSem sig) (hq : q = sS 0 k) (hq' : q' = rS 0 k)
    {hsc : (slotO k : Memref sig (Dev.tc n : Thread nD τ).2.kind .vmem S2x8x512x64 .bf16).view.ref.isScScratch = false}
    {hsrc : m6.view.WordExact} {hdst : (slotO k).view.WordExact}
    {hsem : DmaTarget.Typed .vmem (.dma q') (.remote (Dev.tc n : Thread nD τ) (slotO k : Memref sig (Dev.tc n : Thread nD τ).2.kind .vmem S2x8x512x64 .bf16) (.dma q) hsc)}
    {α : Type} {Q : α → sProp 𝕄} {kt : PUnit → Prog (TpuEff nD τ sig (Elt F) Λ₀ .tc) α}
    (fd : Buf (Elt F) ((slotO k).view.loc (prt k c : Thread nD τ))) :
    iprop(records A K ∗ oPts c (accO A k c) ∗ slotOPts (prt k c) k fd ∗ owesA c (oweL (dueR 0 k c :: l))
        ∗ dutyTok ER (sCell 0 k c) 0 0 ∗ dutyTok ER (rCell 0 k (prt k c)) 0 0)
      ⊢ iprop(((cred (tallyAt (sCell 0 k c) () (amt 0)) ∗ owesA c (oweL l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma m6 (.remote (Dev.tc n : Thread nD τ) (slotO k) (.dma q) hsc) (.dma q') hsrc hdst hsem) kt) Q) := by
  subst hn; subst hq; subst hq'
  unfold owesA oPts slotOPts
  iintro ⟨#HR, Ha, Hd, ⟨%W, HO⟩, Ht, Ht'⟩ Hk
  iapply (Rounds.wp_send_pointsTo 𝒱₀ ER (xRd A) (c : Thread nD τ) none (κ₁ := K (c, sI 0 k)) (κ₂ := K (prt k c, rI 0 k))
    (c' := (prt k c : Thread nD τ)) (src := m6) (dst := slotO k) (sS := .dma (sS 0 k)) (sem := .dma (rS 0 k)) (r₁ := 0) (r₂ := 0) (d₁ := 0) (d₂ := 0) (fs := accO A k c) (fd := fd) (q := fullShare)
    (by rw [duties_s]; exact Finset.mem_singleton_self _) (by rw [duties_r]; exact Finset.mem_singleton_self _)
    () () (amt 0) (credit_slotO k) (amount_s A c 0 k 0) (amount_r A (prt k c) 0 k 0) (oweL l) rfl (W := W)
    (by rw [payload_s]; unfold sPay oPts; rw [if_pos rfl, View.set_whole])
    (by rw [payload_r, landed_O]; unfold rPay; rw [if_pos rfl, prt_prt])) $$ [Ha Hd HO Ht Ht']
  · isplitr; · iapply (inv_s A K 0 k c); iexact HR
    isplitr; · iapply (inv_r A K 0 k (prt k c)); iexact HR
    isplitl [Ha]; · rw [View.set_whole]; iexact Ha
    isplitl [Hd]; · iexact Hd
    isplitl [HO]; · iexact HO
    isplitl [Ht]; · iexact Ht
    isplitr; · iapply (reached_s A K 0 k c); iexact HR
    isplitl [Ht']; · iexact Ht'
    iapply (reached_r A K 0 k (prt k c)); iexact HR
  iintro ⟨Hc, HO⟩
  iapply Hk
  isplitl [Hc]; · iexact Hc
  iexists W; iexact HO

/-- The transfer of the maxima and sums in exchange `k`. -/
theorem wp_send_M (k : Fin 3) (c n : Dev nD) (hn : n = prt k c) (l : List (GSem nD τ sig × ℕ)) (q q' : DmaSem sig) (hq : q = sS 1 k) (hq' : q' = rS 1 k)
    {hsc : (slotM k : Memref sig (Dev.tc n : Thread nD τ).2.kind .vmem S2x8x2x512 .f32).view.ref.isScScratch = false}
    {hsrc : m7.view.WordExact} {hdst : (slotM k).view.WordExact}
    {hsem : DmaTarget.Typed .vmem (.dma q') (.remote (Dev.tc n : Thread nD τ) (slotM k : Memref sig (Dev.tc n : Thread nD τ).2.kind .vmem S2x8x2x512 .f32) (.dma q) hsc)}
    {α : Type} {Q : α → sProp 𝕄} {kt : PUnit → Prog (TpuEff nD τ sig (Elt F) Λ₀ .tc) α}
    (fd : Buf (Elt F) ((slotM k).view.loc (prt k c : Thread nD τ))) :
    iprop(records A K ∗ mPts c (accML A k c) ∗ slotMPts (prt k c) k fd ∗ owesA c (oweL (dueR 1 k c :: l))
        ∗ dutyTok ER (sCell 1 k c) 0 0 ∗ dutyTok ER (rCell 1 k (prt k c)) 0 0)
      ⊢ iprop(((cred (tallyAt (sCell 1 k c) () (amt 1)) ∗ owesA c (oweL l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma m7 (.remote (Dev.tc n : Thread nD τ) (slotM k) (.dma q) hsc) (.dma q') hsrc hdst hsem) kt) Q) := by
  subst hn; subst hq; subst hq'
  unfold owesA mPts slotMPts
  iintro ⟨#HR, Ha, Hd, ⟨%W, HO⟩, Ht, Ht'⟩ Hk
  iapply (Rounds.wp_send_pointsTo 𝒱₀ ER (xRd A) (c : Thread nD τ) none (κ₁ := K (c, sI 1 k)) (κ₂ := K (prt k c, rI 1 k))
    (c' := (prt k c : Thread nD τ)) (src := m7) (dst := slotM k) (sS := .dma (sS 1 k)) (sem := .dma (rS 1 k)) (r₁ := 0) (r₂ := 0) (d₁ := 0) (d₂ := 0) (fs := accML A k c) (fd := fd) (q := fullShare)
    (by rw [duties_s]; exact Finset.mem_singleton_self _) (by rw [duties_r]; exact Finset.mem_singleton_self _)
    () () (amt 1) (credit_slotM k) (amount_s A c 1 k 0) (amount_r A (prt k c) 1 k 0) (oweL l) rfl (W := W)
    (by rw [payload_s]; unfold sPay mPts; rw [if_neg (by decide), View.set_whole])
    (by rw [payload_r, landed_M]; unfold rPay; rw [if_neg (by decide), prt_prt])) $$ [Ha Hd HO Ht Ht']
  · isplitr; · iapply (inv_s A K 1 k c); iexact HR
    isplitr; · iapply (inv_r A K 1 k (prt k c)); iexact HR
    isplitl [Ha]; · rw [View.set_whole]; iexact Ha
    isplitl [Hd]; · iexact Hd
    isplitl [HO]; · iexact HO
    isplitl [Ht]; · iexact Ht
    isplitr; · iapply (reached_s A K 1 k c); iexact HR
    isplitl [Ht']; · iexact Ht'
    iapply (reached_r A K 1 k (prt k c)); iexact HR
  iintro ⟨Hc, HO⟩
  iapply Hk
  isplitl [Hc]; · iexact Hc
  iexists W; iexact HO

end Cert.Exchange

end
-- ==== Proof.Restate.lean ====
/-
What the kernel's stores leave in its two accumulators and in its result, said of the values of
`Contents`: the sixteen head blocks of products, the thirty-two rows of maxima and sums, one
exchange's stores, and the two rows of the result.
-/
module

public import proofs.«01_k».proof.Proof.Steps

@[expose] public section

set_option maxRecDepth 16384

noncomputable section

namespace Cert.Exchange

open Cert.KernelIdeal Cert.KernelIdeal.Gen
open Idealize.ShloMosaic Idealize.ShloMosaic.TcCoe Idealize.ShloMosaic.ValueIdx

variable {F : FTy → Type} [FloatOps F]

/-! ## A buffer written piece by piece -/

/-- Stores that cover the accumulator of products and agree with `G` leave `G`. -/
theorem writes6 (f G : Vec F S2x8x512x64 .bf16) (L : List (View.Piece (Elt F) S2x8x512x64 .bf16))
    (h : ∀ p ∈ L, ∀ x : p.1.shape.Idx, p.2 x = G (p.1.emb x)) (hc : ∀ y, ∃ p ∈ L, y ∈ p.1.set) :
    m6.view.writes (Elt F) f L = G :=
  funext fun y => View.read_writes_apply_of_pieces m6.view f G L h y (hc y)
/-- The same of the accumulator of maxima and sums. -/
theorem writes7 (f G : Vec F S2x8x2x512 .f32) (L : List (View.Piece (Elt F) S2x8x2x512 .f32))
    (h : ∀ p ∈ L, ∀ x : p.1.shape.Idx, p.2 x = G (p.1.emb x)) (hc : ∀ y, ∃ p ∈ L, y ∈ p.1.set) :
    m7.view.writes (Elt F) f L = G :=
  funext fun y => View.read_writes_apply_of_pieces m7.view f G L h y (hc y)
/-- The same of the result. -/
theorem writes5 (f G : Vec F S2x512x768 .f32) (L : List (View.Piece (Elt F) S2x512x768 .f32))
    (h : ∀ p ∈ L, ∀ x : p.1.shape.Idx, p.2 x = G (p.1.emb x)) (hc : ∀ y, ∃ p ∈ L, y ∈ p.1.set) :
    m5.view.writes (Elt F) f L = G :=
  funext fun y => View.read_writes_apply_of_pieces m5.view f G L h y (hc y)

/-! ## Where the stores go -/

/-- The pieces that the body stores lie inside their buffers. -/
theorem inbHead (b : Fin 2) (h : Fin 8) : ∀ a, (![b.val, h.val, 0, 0] : Fin 4 → ℕ) a + S1x1x512x64.size a ≤ S2x8x512x64.size a := by revert b h; decide
theorem inbStat (b : Fin 2) (h : Fin 8) (r : Fin 2) : ∀ a, (![b.val, h.val, r.val, 0] : Fin 4 → ℕ) a + S1x1x1x512.size a ≤ S2x8x2x512.size a := by revert b h r; decide

/-- Where an entry of a stored piece lands: a head's products, a head's row of maxima or sums, a row over all
    heads, one batch of the result. -/
theorem emb_head (b : Fin 2) (h : Fin 8) (x : S1x1x512x64.Idx) :
    (Rect.unit (s := S2x8x512x64) ![b.val, h.val, 0, 0] S1x1x512x64.size (inbHead b h)).emb x = ix4 b h (x 2) (x 3) := by
  funext a; apply Fin.ext
  match a with
  | ⟨0, _⟩ => show b.val + 1 * (x 0).val = b.val; have := (x 0).isLt; change (x 0).val < 1 at this; omega
  | ⟨1, _⟩ => show h.val + 1 * (x 1).val = h.val; have := (x 1).isLt; change (x 1).val < 1 at this; omega
  | ⟨2, _⟩ => show 0 + 1 * (x 2).val = (x 2).val; omega
  | ⟨3, _⟩ => show 0 + 1 * (x 3).val = (x 3).val; omega

theorem emb_stat (b : Fin 2) (h : Fin 8) (r : Fin 2) (x : S1x1x1x512.Idx) :
    (Rect.unit (s := S2x8x2x512) ![b.val, h.val, r.val, 0] S1x1x1x512.size (inbStat b h r)).emb x = ix4 b h r (x 3) := by
  funext a; apply Fin.ext
  match a with
  | ⟨0, _⟩ => show b.val + 1 * (x 0).val = b.val; have := (x 0).isLt; change (x 0).val < 1 at this; omega
  | ⟨1, _⟩ => show h.val + 1 * (x 1).val = h.val; have := (x 1).isLt; change (x 1).val < 1 at this; omega
  | ⟨2, _⟩ => show r.val + 1 * (x 2).val = r.val; have := (x 2).isLt; change (x 2).val < 1 at this; omega
  | ⟨3, _⟩ => show 0 + 1 * (x 3).val = (x 3).val; omega

theorem emb_row (r : Fin 2) (x : S2x8x1x512.Idx) :
    (Rect.unit (s := S2x8x2x512) ![0, 0, r.val, 0] S2x8x1x512.size (inbRow r)).emb x = ix4 (x 0) (x 1) r (x 3) := by
  funext a; apply Fin.ext
  match a with
  | ⟨0, _⟩ => show 0 + 1 * (x 0).val = (x 0).val; omega
  | ⟨1, _⟩ => show 0 + 1 * (x 1).val = (x 1).val; omega
  | ⟨2, _⟩ => show r.val + 1 * (x 2).val = r.val; have := (x 2).isLt; change (x 2).val < 1 at this; omega
  | ⟨3, _⟩ => show 0 + 1 * (x 3).val = (x 3).val; omega

theorem emb_out (b : Fin 2) (x : S1x512x768.Idx) :
    (Rect.unit (s := S2x512x768) ![b.val, 0, 0] S1x512x768.size (inbX b)).emb x = ix3 b (x 1) (x 2) := by
  funext a; apply Fin.ext
  match a with
  | ⟨0, _⟩ => show b.val + 1 * (x 0).val = b.val; have := (x 0).isLt; change (x 0).val < 1 at this; omega
  | ⟨1, _⟩ => show 0 + 1 * (x 1).val = (x 1).val; omega
  | ⟨2, _⟩ => show 0 + 1 * (x 2).val = (x 2).val; omega

/-! ## The stores of the local phase -/

/-- A head's products, stored where they belong, agree with the accumulator's first contents. -/
theorem piece_head (A : Args F) (c : Dev nD) (b : Fin 2) (h : Fin 8) (w : Vec F S1x1x512x64 .bf16)
    (hw : w = shapeCast S1x1x512x64 (weighted (weights (headScores (k0_pay2 c) (A.x c) (A.wq c) (A.k c) b h)) (kvHead (k0_pay6 (vRow b (A.v c))) h)) shapeCasts_S512x64_S1x1x512x64)
    (x : S1x1x512x64.Idx) : w x = accO0 A c ((Rect.unit (s := S2x8x512x64) ![b.val, h.val, 0, 0] S1x1x512x64.size (inbHead b h)).emb x) := by
  rw [emb_head, hw]
  have hx : x = ix4 (0 : Fin 1) (0 : Fin 1) (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  exact congrArg _ hx

/-- An index of one row, by its last coordinate. -/
theorem stat_idx (x : S1x1x1x512.Idx) : x = ix4 (0 : Fin 1) (0 : Fin 1) (0 : Fin 1) (x 3) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- The row of maxima agrees with the accumulator's first contents, -/
theorem piece_max (A : Args F) (c : Dev nD) (b : Fin 2) (h : Fin 8) (w : Vec F S1x1x1x512 .f32)
    (hw : w = shapeCast S1x1x1x512 (rowMax (headScores (k0_pay2 c) (A.x c) (A.wq c) (A.k c) b h)) shapeCasts_S512_S1x1x1x512)
    (x : S1x1x1x512.Idx) : w x = accML0 A c ((Rect.unit (s := S2x8x2x512) ![b.val, h.val, 0, 0] S1x1x1x512.size (inbStat b h 0)).emb x) := by
  rw [show (Rect.unit (s := S2x8x2x512) ![b.val, h.val, 0, 0] S1x1x1x512.size (inbStat b h 0)).emb x = _ from emb_stat b h 0 x, hw]
  unfold accML0 locML
  rw [if_pos (show ((ix4 b h (0 : Fin 2) (x 3) : S2x8x2x512.Idx) 2).val = 0 from rfl)]
  exact congrArg _ (stat_idx x)

/-- and so does the row of sums. -/
theorem piece_sum (A : Args F) (c : Dev nD) (b : Fin 2) (h : Fin 8) (w : Vec F S1x1x1x512 .f32)
    (hw : w = shapeCast S1x1x1x512 (rowSum (weights (headScores (k0_pay2 c) (A.x c) (A.wq c) (A.k c) b h))) shapeCasts_S512_S1x1x1x512)
    (x : S1x1x1x512.Idx) : w x = accML0 A c ((Rect.unit (s := S2x8x2x512) ![b.val, h.val, (1 : Fin 2).val, 0] S1x1x1x512.size (inbStat b h 1)).emb x) := by
  rw [emb_stat, hw]
  exact congrArg _ (stat_idx x)

/-! ## The stores of an exchange -/

/-- An index of a row over all heads, by its free coordinates. -/
theorem row_idx (x : S2x8x1x512.Idx) : x = ix4 (x 0) (x 1) (0 : Fin 1) (x 3) := by
  funext a
  match a with
  | ⟨0, _⟩ => rfl
  | ⟨1, _⟩ => rfl
  | ⟨2, _⟩ => exact Subsingleton.elim (α := Fin 1) _ _
  | ⟨3, _⟩ => rfl

/-- The maxima that exchange `k` stores agree with its contents, -/
theorem piece_row0 (k : Fin 3) (a b : Vec F S2x8x2x512 .f32) (w : Vec F S2x8x1x512 .f32)
    (hw : w = k0_pay131 (k0_pay128 (mlRow 0 a) (mlRow' k 0 b)))
    (x : S2x8x1x512.Idx) : w x = stepML k a b ((Rect.unit (s := S2x8x2x512) ![0, 0, 0, 0] S2x8x1x512.size (inbRow 0)).emb x) := by
  rw [show (Rect.unit (s := S2x8x2x512) ![0, 0, 0, 0] S2x8x1x512.size (inbRow 0)).emb x = _ from emb_row 0 x, hw]
  exact congrArg _ (row_idx x)

/-- and so do the sums. -/
theorem piece_row1 (k : Fin 3) (a b : Vec F S2x8x2x512 .f32) (w : Vec F S2x8x1x512 .f32)
    (hw : w = k0_pay132 (k0_pay125 (mlRow 1 a)) (k0_pay127 (mlRow' k 1 b)) (k0_pay129 (mlRow 0 a) (mlRow' k 0 b)) (k0_pay130 (mlRow 0 a) (mlRow' k 0 b)))
    (x : S2x8x1x512.Idx) : w x = stepML k a b ((Rect.unit (s := S2x8x2x512) ![0, 0, (1 : Fin 2).val, 0] S2x8x1x512.size (inbRow 1)).emb x) := by
  rw [emb_row, hw]
  exact congrArg _ (row_idx x)

/-- A store of the whole accumulator agrees with what it stores. -/
theorem piece_all (G w : Vec F S2x8x512x64 .bf16) (hw : w = G)
    (x : S2x8x512x64.Idx) : w x = G ((Rect.unit (s := S2x8x512x64) ![0, 0, 0, 0] S2x8x512x64.size inb_S2x8x512x64_S2x8x512x64_0_0_0_0).emb x) := by
  rw [hw]
  refine congrArg G ?_
  funext a; apply Fin.ext
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 3).val = 0 + 1 * (x 3).val; omega

/-! ## The stores of the result -/

/-- An index of one batch of the result, by its free coordinates. -/
theorem out_idx (x : S1x512x768.Idx) : x = ix3 (0 : Fin 1) (x 1) (x 2) := by
  funext a
  match a with
  | ⟨0, _⟩ => exact Subsingleton.elim (α := Fin 1) _ _
  | ⟨1, _⟩ => rfl
  | ⟨2, _⟩ => rfl

/-- The first batch stored agrees with the result, -/
theorem piece_out0 (A : Args F) (c : Dev nD) (w : Vec F S1x512x768 .f32) (hw : w = out0 (accO3 A c) (accML3 A c) (A.wo c)) (x : S1x512x768.Idx) :
    w x = outV A c ((Rect.unit (s := S2x512x768) ![(0 : Fin 2).val, 0, 0] S1x512x768.size (inbX 0)).emb x) := by
  rw [emb_out, hw]
  exact congrArg _ (out_idx x)
/-- and so does the second. -/
theorem piece_out1 (A : Args F) (c : Dev nD) (w : Vec F S1x512x768 .f32) (hw : w = out1 (accO3 A c) (accML3 A c) (A.wo c)) (x : S1x512x768.Idx) :
    w x = outV A c ((Rect.unit (s := S2x512x768) ![(1 : Fin 2).val, 0, 0] S1x512x768.size (inbX 1)).emb x) := by
  rw [emb_out, hw]
  exact congrArg _ (out_idx x)

end Cert.Exchange

end
-- ==== Proof.Body.lean ====
/-
ONE DEVICE'S BODY, run once at a symbolic device and over any float values: the barrier, the sixteen head blocks, the
three exchanges and the two batches of the result. `body_sound` takes `bodyPre` to `bodyPost`.
-/
module
public import proofs.«01_k».proof.Proof.Restate

@[expose] public section
set_option maxRecDepth 16384
noncomputable section
namespace Cert.Exchange
open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (A : Args F) (K : Dev nD × Fin 13 → ℕ)

/-- What the body finds: the protocol's records and its device's share of it, the five inputs, and the result, the
    accumulators and the receive slots with any contents. -/
def bodyPre (c : Dev nD) (f5 : Buf (Elt F) (m5.view.loc (c : Thread nD τ))) (f6 : Buf (Elt F) (m6.view.loc (c : Thread nD τ))) (f7 : Buf (Elt F) (m7.view.loc (c : Thread nD τ)))
    (f8 : Buf (Elt F) (m8.view.loc (c : Thread nD τ))) (f9 : Buf (Elt F) (m9.view.loc (c : Thread nD τ))) : sProp 𝕄 :=
  iprop((records A K ∗ levAts L lv) ∗ linear c ∗ creds c ∗ owesA c (O₀ c)
    ∗ ((m0.view.loc (c : Thread nD τ)) ↦{fullShare} A.x c) ∗ ((m1.view.loc (c : Thread nD τ)) ↦{fullShare} A.wq c) ∗ ((m2.view.loc (c : Thread nD τ)) ↦{fullShare} A.k c)
    ∗ ((m3.view.loc (c : Thread nD τ)) ↦{fullShare} A.v c) ∗ ((m4.view.loc (c : Thread nD τ)) ↦{fullShare} A.wo c)
    ∗ ((m5.view.loc (c : Thread nD τ)) ↦{fullShare} f5) ∗ ((m6.view.loc (c : Thread nD τ)) ↦{fullShare} f6) ∗ ((m7.view.loc (c : Thread nD τ)) ↦{fullShare} f7)
    ∗ ((m8.view.loc (c : Thread nD τ)) ↦{fullShare} f8) ∗ ((m9.view.loc (c : Thread nD τ)) ↦{fullShare} f9))

/-- A returned value passed on. -/
theorem ret_bind_eq {E : Type → Type} {α β : Type} (a : α) (k : α → Prog E β) : (Prog.ret a).bind k = k a := rfl

/-- A row of maxima or sums read out of receive slot `k` lies in that slot. -/
theorem ld_M (k : Fin 3) (r : Fin 2) :
    m9.view.setOn (Rect.unit (s := S3x2x8x2x512) ![k.val, 0, 0, r.val, 0] S1x2x8x1x512.size (inbRow' k r)).toLoadRect.set ⊆ setM k := by
  intro i hi
  obtain ⟨y, hy, rfl⟩ := Finset.mem_map.mp hi
  obtain ⟨x, rfl⟩ := LoadRect.exists_idx_of_mem _ hy
  refine (mem_slotM k _).mpr (Fin.ext ?_)
  show k.val + 1 * (x 0).val = k.val
  have := (x 0).isLt; change (x 0).val < 1 at this; omega
/-- The products read out of receive slot `k` lie in that slot. -/
theorem ld_O (k : Fin 3) :
    m8.view.setOn (Rect.unit (s := S3x2x8x512x64) ![k.val, 0, 0, 0, 0] S1x2x8x512x64.size (inbO k)).toLoadRect.set ⊆ setO k := by
  intro i hi
  obtain ⟨y, hy, rfl⟩ := Finset.mem_map.mp hi
  obtain ⟨x, rfl⟩ := LoadRect.exists_idx_of_mem _ hy
  refine (mem_slotO k _).mpr (Fin.ext ?_)
  show k.val + 1 * (x 0).val = k.val
  have := (x 0).isLt; change (x 0).val < 1 at this; omega

/-- What exchange 0 sends and receives, spelled out: `oPts`/`mPts` the two accumulators, `sPay` what the send semaphores give
    back, `rPay` what has landed. Then the same of exchanges 1 and 2. -/
theorem oPts_0 (c : Dev nD) : oPts c (accO A 0 c) = iprop((m6.view.loc (c : Thread nD τ)) ↦{fullShare} accO0 A c) := rfl
theorem mPts_0 (c : Dev nD) : mPts c (accML A 0 c) = iprop((m7.view.loc (c : Thread nD τ)) ↦{fullShare} accML0 A c) := rfl
theorem sPay_00 (c : Dev nD) : sPay A 0 0 c = iprop((m6.view.loc (c : Thread nD τ)) ↦{fullShare} accO0 A c) := rfl
theorem sPay_10 (c : Dev nD) : sPay A 1 0 c = iprop((m7.view.loc (c : Thread nD τ)) ↦{fullShare} accML0 A c) := rfl
theorem rPay_00 (c : Dev nD) : rPay A 0 0 c = iprop((m8.view.loc (c : Thread nD τ)) ↦[setO 0]{fullShare} liftO (accO0 A (prt 0 c))) := rfl
theorem rPay_10 (c : Dev nD) : rPay A 1 0 c = iprop((m9.view.loc (c : Thread nD τ)) ↦[setM 0]{fullShare} liftM (accML0 A (prt 0 c))) := rfl
theorem oPts_1 (c : Dev nD) : oPts c (accO A 1 c) = iprop((m6.view.loc (c : Thread nD τ)) ↦{fullShare} accO1 A c) := rfl
theorem mPts_1 (c : Dev nD) : mPts c (accML A 1 c) = iprop((m7.view.loc (c : Thread nD τ)) ↦{fullShare} accML1 A c) := rfl
theorem sPay_01 (c : Dev nD) : sPay A 0 1 c = iprop((m6.view.loc (c : Thread nD τ)) ↦{fullShare} accO1 A c) := rfl
theorem sPay_11 (c : Dev nD) : sPay A 1 1 c = iprop((m7.view.loc (c : Thread nD τ)) ↦{fullShare} accML1 A c) := rfl
theorem rPay_01 (c : Dev nD) : rPay A 0 1 c = iprop((m8.view.loc (c : Thread nD τ)) ↦[setO 1]{fullShare} liftO (accO1 A (prt 1 c))) := rfl
theorem rPay_11 (c : Dev nD) : rPay A 1 1 c = iprop((m9.view.loc (c : Thread nD τ)) ↦[setM 1]{fullShare} liftM (accML1 A (prt 1 c))) := rfl
theorem oPts_2 (c : Dev nD) : oPts c (accO A 2 c) = iprop((m6.view.loc (c : Thread nD τ)) ↦{fullShare} accO2 A c) := rfl
theorem mPts_2 (c : Dev nD) : mPts c (accML A 2 c) = iprop((m7.view.loc (c : Thread nD τ)) ↦{fullShare} accML2 A c) := rfl
theorem sPay_02 (c : Dev nD) : sPay A 0 2 c = iprop((m6.view.loc (c : Thread nD τ)) ↦{fullShare} accO2 A c) := rfl
theorem sPay_12 (c : Dev nD) : sPay A 1 2 c = iprop((m7.view.loc (c : Thread nD τ)) ↦{fullShare} accML2 A c) := rfl
theorem rPay_02 (c : Dev nD) : rPay A 0 2 c = iprop((m8.view.loc (c : Thread nD τ)) ↦[setO 2]{fullShare} liftO (accO2 A (prt 2 c))) := rfl
theorem rPay_12 (c : Dev nD) : rPay A 1 2 c = iprop((m9.view.loc (c : Thread nD τ)) ↦[setM 2]{fullShare} liftM (accML2 A (prt 2 c))) := rfl

/-- What the body leaves: nothing owed, the inputs as they were, the result written, the cells closed. -/
def bodyPost (c : Dev nD) : sProp 𝕄 :=
  iprop(owesA c (oweL []) ∗ ((m0.view.loc (c : Thread nD τ)) ↦{fullShare} A.x c) ∗ ((m1.view.loc (c : Thread nD τ)) ↦{fullShare} A.wq c)
    ∗ ((m2.view.loc (c : Thread nD τ)) ↦{fullShare} A.k c) ∗ ((m3.view.loc (c : Thread nD τ)) ↦{fullShare} A.v c)
    ∗ ((m4.view.loc (c : Thread nD τ)) ↦{fullShare} A.wo c) ∗ ((m5.view.loc (c : Thread nD τ)) ↦{fullShare} outV A c)
    ∗ (∃ f, (m6.view.loc (c : Thread nD τ)) ↦{fullShare} f) ∗ (∃ f, (m7.view.loc (c : Thread nD τ)) ↦{fullShare} f)
    ∗ (∃ f, (m8.view.loc (c : Thread nD τ)) ↦{fullShare} f) ∗ (∃ f, (m9.view.loc (c : Thread nD τ)) ↦{fullShare} f)
    ∗ semVal (barCell c) 0 ∗ xDone 0 c ∗ xDone 1 c ∗ xDone 2 c)

/-- Batch row 0 of the result, from loads equal to those it is computed of. -/
theorem out0_of (o : Vec F S2x8x512x64 .bf16) (a : Vec F S2x8x2x512 .f32) (w : Vec F S512x768 .bf16) (o' : FVec F S2x8x512x64 .bf16) (a' : FVec F S2x8x1x512 .f32) (z : FVec F S512x768 .f32)
    (w0 w1 w2 w3 w4 w5 w6 w7 : FVec F S64x768 .bf16) (ho : o' = oAll o) (ha : a' = mlRow 1 a) (hz : z = constant S512x768 .f32 0x00000000#32)
    (h0 : w0 = woRow 0 w) (h1 : w1 = woRow 1 w) (h2 : w2 = woRow 2 w) (h3 : w3 = woRow 3 w) (h4 : w4 = woRow 4 w) (h5 : w5 = woRow 5 w) (h6 : w6 = woRow 6 w) (h7 : w7 = woRow 7 w) :
    k0_pay157 (k0_pay153 o' a') (k0_pay154 o' a' w0 w1 w2 w3) (k0_pay155 w4) (k0_pay156 o' a') z w5 w6 w7 = out0 o a w := by
  rw [ho, ha, hz, h0, h1, h2, h3, h4, h5, h6, h7]; rfl
/-- The same for batch row 1. -/
theorem out1_of (o : Vec F S2x8x512x64 .bf16) (a : Vec F S2x8x2x512 .f32) (w : Vec F S512x768 .bf16) (o' : FVec F S2x8x512x64 .bf16) (a' : FVec F S2x8x1x512 .f32)
    (w0 w1 w2 w3 w4 w5 w6 w7 : FVec F S64x768 .bf16) (ho : o' = oAll o) (ha : a' = mlRow 1 a)
    (h0 : w0 = woRow 0 w) (h1 : w1 = woRow 1 w) (h2 : w2 = woRow 2 w) (h3 : w3 = woRow 3 w) (h4 : w4 = woRow 4 w) (h5 : w5 = woRow 5 w) (h6 : w6 = woRow 6 w) (h7 : w7 = woRow 7 w) :
    k0_pay1 (k0_pay153 o' a') (k0_pay160 (k0_pay153 o' a') (k0_pay158 (k0_pay153 o' a') w0 w1) (k0_pay159 w2) w3 w4 w5) w6 w7 = out1 o a w := by
  rw [ho, ha, h0, h1, h2, h3, h4, h5, h6, h7]; rfl

/-- A load of the accumulator of products after stores that cover it and agree with `G`. -/
theorem cov6 (G : Vec F S2x8x512x64 .bf16) (L : List (View.Piece (Elt F) S2x8x512x64 .bf16)) (B : LoadRect S2x8x512x64)
    (h : ∀ p ∈ L, ∀ x : p.1.shape.Idx, p.2 x = G (p.1.emb x)) (hc : ∀ y, ∃ p ∈ L, y ∈ p.1.set) : m6.view.readCov L B = m6.view.readAt (Elt F) B G :=
  congrArg (m6.view.readAt (Elt F) B) (writes6 _ G L h hc)
/-- The same of the accumulator of maxima and sums. -/
theorem cov7 (G : Vec F S2x8x2x512 .f32) (L : List (View.Piece (Elt F) S2x8x2x512 .f32)) (B : LoadRect S2x8x2x512)
    (h : ∀ p ∈ L, ∀ x : p.1.shape.Idx, p.2 x = G (p.1.emb x)) (hc : ∀ y, ∃ p ∈ L, y ∈ p.1.set) : m7.view.readCov L B = m7.view.readAt (Elt F) B G :=
  congrArg (m7.view.readAt (Elt F) B) (writes7 _ G L h hc)

set_option maxHeartbeats 16000000 in
/-- Device `c`'s body runs from `bodyPre` to `bodyPost`: it ends, and leaves the result `outV A c`. -/
theorem body_sound (c : Dev nD) (f5 : Buf (Elt F) (m5.view.loc (c : Thread nD τ))) (f6 : Buf (Elt F) (m6.view.loc (c : Thread nD τ))) (f7 : Buf (Elt F) (m7.view.loc (c : Thread nD τ)))
    (f8 : Buf (Elt F) (m8.view.loc (c : Thread nD τ))) (f9 : Buf (Elt F) (m9.view.loc (c : Thread nD τ))) :
   bodyPre A K c f5 f6 f7 f8 f9 ⊢
   wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) fun _ => bodyPost A c := by
  simp only [cc0_body_eq_skeleton]
  unfold cc0_body_skel bodyPre linear creds
  iintro ⟨⟨#HR, #Hlev⟩, ⟨HatB, ⟨Hp0, Hp1, Hp2⟩, ⟨Ht0, Ht1, Ht2⟩⟩, ⟨HcB, Hc0, Hc1, Hc2⟩, HO, H0, H1, H2, H3, H4, H5, H6, H7, H8, H9⟩
  ihave Hs8 := (Entails.of_eq (split_O c f8)) $$ H8
  icases Hs8 with ⟨H80, H81, H82⟩
  ihave Hs9 := (Entails.of_eq (split_M c f9)) $$ H9
  icases Hs9 with ⟨H90, H91, H92⟩
  sl_exec
  unfold O₀ dues xToks
  icases Ht0 with ⟨HtB0, HtS00, HtS10, HtR00, HtR10⟩
  icases Ht1 with ⟨HtB1, HtS01, HtS11, HtR01, HtR11⟩
  icases Ht2 with ⟨HtB2, HtS02, HtS12, HtR02, HtR12⟩
  iapply (wp_sig A K 0 c _ (dev1_eq c) _ (by decide) f8 f9) $$ [HO HtB0 H80 H90]
  · isplitr; · iexact HR
    isplitl [HO]; · iexact HO
    isplitl [HtB0]; · iexact HtB0
    isplitl [H80]; · iexact H80
    iexact H90
  iintro HO
  sl_exec
  iapply (wp_sig A K 1 c _ (dev2_eq c) _ (by decide) f8 f9) $$ [HO HtB1 H81 H91]
  · isplitr; · iexact HR
    isplitl [HO]; · iexact HO
    isplitl [HtB1]; · iexact HtB1
    isplitl [H81]; · iexact H81
    iexact H91
  iintro HO
  sl_exec
  iapply (wp_sig A K 2 c _ (dev3_eq c) _ (by decide) f8 f9) $$ [HO HtB2 H82 H92]
  · isplitr; · iexact HR
    isplitl [HO]; · iexact HO
    isplitl [HtB2]; · iexact HtB2
    isplitl [H82]; · iexact H82
    iexact H92
  iintro HO
  sl_exec
  iapply (wp_bar A K c (dues6 c) (by decide +revert) (by decide)) $$ [HO HcB HatB]
  · isplitr; · iexact HR
    isplitr; · iexact Hlev
    isplitl [HcB]; · iexact HcB
    isplitl [HO]; · iexact HO
    iexact HatB
  unfold barPay
  iintro ⟨HO, ⟨⟨⟨%g80, HN80⟩, ⟨%g90, HN90⟩⟩, ⟨⟨%g81, HN81⟩, ⟨%g91, HN91⟩⟩, ⟨⟨%g82, HN82⟩, ⟨%g92, HN92⟩⟩⟩, HzB⟩
  sl_exec
  rw [writes6 f6 (accO0 A c)]
  rotate_left
  · refine List.forall_mem_cons.mpr ⟨piece_head A c 1 7 _ rfl, ?_⟩
    refine List.forall_mem_cons.mpr ⟨piece_head A c 1 6 _ rfl, ?_⟩
    refine List.forall_mem_cons.mpr ⟨piece_head A c 1 5 _ rfl, ?_⟩
    refine List.forall_mem_cons.mpr ⟨piece_head A c 1 4 _ rfl, ?_⟩
    refine List.forall_mem_cons.mpr ⟨piece_head A c 1 3 _ rfl, ?_⟩
    refine List.forall_mem_cons.mpr ⟨piece_head A c 1 2 _ rfl, ?_⟩
    refine List.forall_mem_cons.mpr ⟨piece_head A c 1 1 _ rfl, ?_⟩
    refine List.forall_mem_cons.mpr ⟨piece_head A c 1 0 _ rfl, ?_⟩
    refine List.forall_mem_cons.mpr ⟨piece_head A c 0 7 _ rfl, ?_⟩
    refine List.forall_mem_cons.mpr ⟨piece_head A c 0 6 _ rfl, ?_⟩
    refine List.forall_mem_cons.mpr ⟨piece_head A c 0 5 _ rfl, ?_⟩
    refine List.forall_mem_cons.mpr ⟨piece_head A c 0 4 _ rfl, ?_⟩
    refine List.forall_mem_cons.mpr ⟨piece_head A c 0 3 _ rfl, ?_⟩
    refine List.forall_mem_cons.mpr ⟨piece_head A c 0 2 _ rfl, ?_⟩
    refine List.forall_mem_cons.mpr ⟨piece_head A c 0 1 _ rfl, ?_⟩
    refine List.forall_mem_cons.mpr ⟨piece_head A c 0 0 _ rfl, ?_⟩
    exact List.forall_mem_nil _
  · exact View.cover_of_tiled _ ![1, 1, 512, 64] rfl
  rw [writes7 f7 (accML0 A c)]
  rotate_left
  · refine List.forall_mem_cons.mpr ⟨?_, ?_⟩
    · refine piece_sum A c 1 7 _ ?_
      dsimp only
      rfl
    refine List.forall_mem_cons.mpr ⟨?_, ?_⟩
    · refine piece_max A c 1 7 _ ?_
      dsimp only
      rfl
    refine List.forall_mem_cons.mpr ⟨?_, ?_⟩
    · refine piece_sum A c 1 6 _ ?_
      dsimp only
      rfl
    refine List.forall_mem_cons.mpr ⟨?_, ?_⟩
    · refine piece_max A c 1 6 _ ?_
      dsimp only
      rfl
    refine List.forall_mem_cons.mpr ⟨?_, ?_⟩
    · refine piece_sum A c 1 5 _ ?_
      dsimp only
      rfl
    refine List.forall_mem_cons.mpr ⟨?_, ?_⟩
    · refine piece_max A c 1 5 _ ?_
      dsimp only
      rfl
    refine List.forall_mem_cons.mpr ⟨?_, ?_⟩
    · refine piece_sum A c 1 4 _ ?_
      dsimp only
      rfl
    refine List.forall_mem_cons.mpr ⟨?_, ?_⟩
    · refine piece_max A c 1 4 _ ?_
      dsimp only
      rfl
    refine List.forall_mem_cons.mpr ⟨?_, ?_⟩
    · refine piece_sum A c 1 3 _ ?_
      dsimp only
      rfl
    refine List.forall_mem_cons.mpr ⟨?_, ?_⟩
    · refine piece_max A c 1 3 _ ?_
      dsimp only
      rfl
    refine List.forall_mem_cons.mpr ⟨?_, ?_⟩
    · refine piece_sum A c 1 2 _ ?_
      dsimp only
      rfl
    refine List.forall_mem_cons.mpr ⟨?_, ?_⟩
    · refine piece_max A c 1 2 _ ?_
      dsimp only
      rfl
    refine List.forall_mem_cons.mpr ⟨?_, ?_⟩
    · refine piece_sum A c 1 1 _ ?_
      dsimp only
      rfl
    refine List.forall_mem_cons.mpr ⟨?_, ?_⟩
    · refine piece_max A c 1 1 _ ?_
      dsimp only
      rfl
    refine List.forall_mem_cons.mpr ⟨?_, ?_⟩
    · refine piece_sum A c 1 0 _ ?_
      dsimp only
      rfl
    refine List.forall_mem_cons.mpr ⟨?_, ?_⟩
    · refine piece_max A c 1 0 _ ?_
      dsimp only
      rfl
    refine List.forall_mem_cons.mpr ⟨?_, ?_⟩
    · refine piece_sum A c 0 7 _ ?_
      dsimp only
      rfl
    refine List.forall_mem_cons.mpr ⟨?_, ?_⟩
    · refine piece_max A c 0 7 _ ?_
      dsimp only
      rfl
    refine List.forall_mem_cons.mpr ⟨?_, ?_⟩
    · refine piece_sum A c 0 6 _ ?_
      dsimp only
      rfl
    refine List.forall_mem_cons.mpr ⟨?_, ?_⟩
    · refine piece_max A c 0 6 _ ?_
      dsimp only
      rfl
    refine List.forall_mem_cons.mpr ⟨?_, ?_⟩
    · refine piece_sum A c 0 5 _ ?_
      dsimp only
      rfl
    refine List.forall_mem_cons.mpr ⟨?_, ?_⟩
    · refine piece_max A c 0 5 _ ?_
      dsimp only
      rfl
    refine List.forall_mem_cons.mpr ⟨?_, ?_⟩
    · refine piece_sum A c 0 4 _ ?_
      dsimp only
      rfl
    refine List.forall_mem_cons.mpr ⟨?_, ?_⟩
    · refine piece_max A c 0 4 _ ?_
      dsimp only
      rfl
    refine List.forall_mem_cons.mpr ⟨?_, ?_⟩
    · refine piece_sum A c 0 3 _ ?_
      dsimp only
      rfl
    refine List.forall_mem_cons.mpr ⟨?_, ?_⟩
    · refine piece_max A c 0 3 _ ?_
      dsimp only
      rfl
    refine List.forall_mem_cons.mpr ⟨?_, ?_⟩
    · refine piece_sum A c 0 2 _ ?_
      dsimp only
      rfl
    refine List.forall_mem_cons.mpr ⟨?_, ?_⟩
    · refine piece_max A c 0 2 _ ?_
      dsimp only
      rfl
    refine List.forall_mem_cons.mpr ⟨?_, ?_⟩
    · refine piece_sum A c 0 1 _ ?_
      dsimp only
      rfl
    refine List.forall_mem_cons.mpr ⟨?_, ?_⟩
    · refine piece_max A c 0 1 _ ?_
      dsimp only
      rfl
    refine List.forall_mem_cons.mpr ⟨?_, ?_⟩
    · refine piece_sum A c 0 0 _ ?_
      dsimp only
      rfl
    refine List.forall_mem_cons.mpr ⟨?_, ?_⟩
    · refine piece_max A c 0 0 _ ?_
      dsimp only
      rfl
    exact List.forall_mem_nil _
  · exact View.cover_of_tiled _ ![1, 1, 1, 512] rfl
  unfold xPos xCred
  icases Hp0 with ⟨HpS0, HpS1, HpR0, HpR1⟩
  icases Hc0 with ⟨HcR0, HcR1⟩
  ihave H6 := (Entails.of_eq (oPts_0 A c).symm) $$ H6
  iapply (wp_send_O A K 0 c _ (dev4_eq c) _ _ _ (by rfl) (by rfl) g80) $$ [H6 HN80 HO HtS00 HtR00]
  · isplitr; · iexact HR
    isplitl [H6]; · iexact H6
    isplitl [HN80]; · iexact HN80
    isplitl [HO]; · iexact HO
    isplitl [HtS00]; · iexact HtS00
    iexact HtR00
  iintro ⟨HcS0, HO⟩
  sl_exec
  ihave H7 := (Entails.of_eq (mPts_0 A c).symm) $$ H7
  iapply (wp_send_M A K 0 c _ (dev5_eq c) _ _ _ (by rfl) (by rfl) g90) $$ [H7 HN90 HO HtS10 HtR10]
  · isplitr; · iexact HR
    isplitl [H7]; · iexact H7
    isplitl [HN90]; · iexact HN90
    isplitl [HO]; · iexact HO
    isplitl [HtS10]; · iexact HtS10
    iexact HtR10
  iintro ⟨HcS1, HO⟩
  sl_exec
  iapply (wp_wait_s A K 0 0 c [dueR 0 1 c, dueR 1 1 c, dueR 0 2 c, dueR 1 2 c] (by decide +revert) _ (by rfl) credit_O) $$ [HcS0 HO HpS0]
  · isplitr; · iexact HR
    isplitr; · iexact Hlev
    isplitl [HcS0]; · iexact HcS0
    isplitl [HO]; · iexact HO
    iexact HpS0
  rw [sPay_00 A c]
  iintro ⟨HO, H6, HzS00⟩
  sl_exec
  iapply (wp_wait_r A K 0 0 c [dueR 0 1 c, dueR 1 1 c, dueR 0 2 c, dueR 1 2 c] (by decide +revert) _ (by rfl) (credit_slotO 0)) $$ [HcR0 HO HpR0]
  · isplitr; · iexact HR
    isplitr; · iexact Hlev
    isplitl [HcR0]; · iexact HcR0
    isplitl [HO]; · iexact HO
    iexact HpR0
  rw [rPay_00 A c]
  iintro ⟨HO, H80, HzR00⟩
  sl_exec
  iapply (wp_wait_s A K 1 0 c [dueR 0 1 c, dueR 1 1 c, dueR 0 2 c, dueR 1 2 c] (by decide +revert) _ (by rfl) credit_M) $$ [HcS1 HO HpS1]
  · isplitr; · iexact HR
    isplitr; · iexact Hlev
    isplitl [HcS1]; · iexact HcS1
    isplitl [HO]; · iexact HO
    iexact HpS1
  rw [sPay_10 A c]
  iintro ⟨HO, H7, HzS10⟩
  sl_exec
  iapply (wp_wait_r A K 1 0 c [dueR 0 1 c, dueR 1 1 c, dueR 0 2 c, dueR 1 2 c] (by decide +revert) _ (by rfl) (credit_slotM 0)) $$ [HcR1 HO HpR1]
  · isplitr; · iexact HR
    isplitr; · iexact Hlev
    isplitl [HcR1]; · iexact HcR1
    isplitl [HO]; · iexact HO
    iexact HpR1
  rw [rPay_10 A c]
  iintro ⟨HO, H90, HzR10⟩
  sl_exec
  iapply (wp_load 𝒱₀ (c : Thread nD τ) none Set.univ (m := m9) (ld_M 0 0)) $$ H90
  iintro H90
  iapply (wp_load 𝒱₀ (c : Thread nD τ) none Set.univ (m := m9) (ld_M 0 1)) $$ H90
  iintro H90
  rw [ret_bind_eq]
  sl_exec
  iapply (wp_load 𝒱₀ (c : Thread nD τ) none Set.univ (m := m8) (ld_O 0)) $$ H80
  iintro H80
  sl_exec
  rw [writes6 (accO0 A c) (accO1 A c)]
  rotate_left
  · refine List.forall_mem_cons.mpr ⟨?_, List.forall_mem_nil _⟩
    refine piece_all (accO1 A c) _ ?_
    dsimp only
    rfl
  · exact View.cover_of_tiled _ ![2, 8, 512, 64] rfl
  rw [writes7 (accML0 A c) (accML1 A c)]
  rotate_left
  · refine List.forall_mem_cons.mpr ⟨?_, List.forall_mem_cons.mpr ⟨?_, List.forall_mem_nil _⟩⟩
    · refine piece_row1 0 (accML0 A c) (accML0 A (prt 0 c)) _ ?_
      dsimp only
      rfl
    · refine piece_row0 0 (accML0 A c) (accML0 A (prt 0 c)) _ ?_
      dsimp only
      rfl
  · exact View.cover_of_tiled _ ![2, 8, 1, 512] rfl
  icases Hp1 with ⟨HpS0, HpS1, HpR0, HpR1⟩
  icases Hc1 with ⟨HcR0, HcR1⟩
  ihave H6 := (Entails.of_eq (oPts_1 A c).symm) $$ H6
  iapply (wp_send_O A K 1 c _ (dev6_eq c) _ _ _ (by rfl) (by rfl) g81) $$ [H6 HN81 HO HtS01 HtR01]
  · isplitr; · iexact HR
    isplitl [H6]; · iexact H6
    isplitl [HN81]; · iexact HN81
    isplitl [HO]; · iexact HO
    isplitl [HtS01]; · iexact HtS01
    iexact HtR01
  iintro ⟨HcS0, HO⟩
  sl_exec
  ihave H7 := (Entails.of_eq (mPts_1 A c).symm) $$ H7
  iapply (wp_send_M A K 1 c _ (dev7_eq c) _ _ _ (by rfl) (by rfl) g91) $$ [H7 HN91 HO HtS11 HtR11]
  · isplitr; · iexact HR
    isplitl [H7]; · iexact H7
    isplitl [HN91]; · iexact HN91
    isplitl [HO]; · iexact HO
    isplitl [HtS11]; · iexact HtS11
    iexact HtR11
  iintro ⟨HcS1, HO⟩
  sl_exec
  iapply (wp_wait_s A K 0 1 c [dueR 0 2 c, dueR 1 2 c] (by decide +revert) _ (by rfl) credit_O) $$ [HcS0 HO HpS0]
  · isplitr; · iexact HR
    isplitr; · iexact Hlev
    isplitl [HcS0]; · iexact HcS0
    isplitl [HO]; · iexact HO
    iexact HpS0
  rw [sPay_01 A c]
  iintro ⟨HO, H6, HzS01⟩
  sl_exec
  iapply (wp_wait_r A K 0 1 c [dueR 0 2 c, dueR 1 2 c] (by decide +revert) _ (by rfl) (credit_slotO 1)) $$ [HcR0 HO HpR0]
  · isplitr; · iexact HR
    isplitr; · iexact Hlev
    isplitl [HcR0]; · iexact HcR0
    isplitl [HO]; · iexact HO
    iexact HpR0
  rw [rPay_01 A c]
  iintro ⟨HO, H81, HzR01⟩
  sl_exec
  iapply (wp_wait_s A K 1 1 c [dueR 0 2 c, dueR 1 2 c] (by decide +revert) _ (by rfl) credit_M) $$ [HcS1 HO HpS1]
  · isplitr; · iexact HR
    isplitr; · iexact Hlev
    isplitl [HcS1]; · iexact HcS1
    isplitl [HO]; · iexact HO
    iexact HpS1
  rw [sPay_11 A c]
  iintro ⟨HO, H7, HzS11⟩
  sl_exec
  iapply (wp_wait_r A K 1 1 c [dueR 0 2 c, dueR 1 2 c] (by decide +revert) _ (by rfl) (credit_slotM 1)) $$ [HcR1 HO HpR1]
  · isplitr; · iexact HR
    isplitr; · iexact Hlev
    isplitl [HcR1]; · iexact HcR1
    isplitl [HO]; · iexact HO
    iexact HpR1
  rw [rPay_11 A c]
  iintro ⟨HO, H91, HzR11⟩
  sl_exec
  iapply (wp_load 𝒱₀ (c : Thread nD τ) none Set.univ (m := m9) (ld_M 1 0)) $$ H91
  iintro H91
  iapply (wp_load 𝒱₀ (c : Thread nD τ) none Set.univ (m := m9) (ld_M 1 1)) $$ H91
  iintro H91
  rw [ret_bind_eq]
  sl_exec
  iapply (wp_load 𝒱₀ (c : Thread nD τ) none Set.univ (m := m8) (ld_O 1)) $$ H81
  iintro H81
  sl_exec
  rw [writes6 (accO1 A c) (accO2 A c)]
  rotate_left
  · refine List.forall_mem_cons.mpr ⟨?_, List.forall_mem_nil _⟩
    refine piece_all (accO2 A c) _ ?_
    dsimp only
    rfl
  · exact View.cover_of_tiled _ ![2, 8, 512, 64] rfl
  rw [writes7 (accML1 A c) (accML2 A c)]
  rotate_left
  · refine List.forall_mem_cons.mpr ⟨?_, List.forall_mem_cons.mpr ⟨?_, List.forall_mem_nil _⟩⟩
    · refine piece_row1 1 (accML1 A c) (accML1 A (prt 1 c)) _ ?_
      dsimp only
      rfl
    · refine piece_row0 1 (accML1 A c) (accML1 A (prt 1 c)) _ ?_
      dsimp only
      rfl
  · exact View.cover_of_tiled _ ![2, 8, 1, 512] rfl
  icases Hp2 with ⟨HpS0, HpS1, HpR0, HpR1⟩
  icases Hc2 with ⟨HcR0, HcR1⟩
  ihave H6 := (Entails.of_eq (oPts_2 A c).symm) $$ H6
  iapply (wp_send_O A K 2 c _ (dev8_eq c) _ _ _ (by rfl) (by rfl) g82) $$ [H6 HN82 HO HtS02 HtR02]
  · isplitr; · iexact HR
    isplitl [H6]; · iexact H6
    isplitl [HN82]; · iexact HN82
    isplitl [HO]; · iexact HO
    isplitl [HtS02]; · iexact HtS02
    iexact HtR02
  iintro ⟨HcS0, HO⟩
  sl_exec
  ihave H7 := (Entails.of_eq (mPts_2 A c).symm) $$ H7
  iapply (wp_send_M A K 2 c _ (dev9_eq c) _ _ _ (by rfl) (by rfl) g92) $$ [H7 HN92 HO HtS12 HtR12]
  · isplitr; · iexact HR
    isplitl [H7]; · iexact H7
    isplitl [HN92]; · iexact HN92
    isplitl [HO]; · iexact HO
    isplitl [HtS12]; · iexact HtS12
    iexact HtR12
  iintro ⟨HcS1, HO⟩
  sl_exec
  iapply (wp_wait_s A K 0 2 c [] (by decide +revert) _ (by rfl) credit_O) $$ [HcS0 HO HpS0]
  · isplitr; · iexact HR
    isplitr; · iexact Hlev
    isplitl [HcS0]; · iexact HcS0
    isplitl [HO]; · iexact HO
    iexact HpS0
  rw [sPay_02 A c]
  iintro ⟨HO, H6, HzS02⟩
  sl_exec
  iapply (wp_wait_r A K 0 2 c [] (by decide +revert) _ (by rfl) (credit_slotO 2)) $$ [HcR0 HO HpR0]
  · isplitr; · iexact HR
    isplitr; · iexact Hlev
    isplitl [HcR0]; · iexact HcR0
    isplitl [HO]; · iexact HO
    iexact HpR0
  rw [rPay_02 A c]
  iintro ⟨HO, H82, HzR02⟩
  sl_exec
  iapply (wp_wait_s A K 1 2 c [] (by decide +revert) _ (by rfl) credit_M) $$ [HcS1 HO HpS1]
  · isplitr; · iexact HR
    isplitr; · iexact Hlev
    isplitl [HcS1]; · iexact HcS1
    isplitl [HO]; · iexact HO
    iexact HpS1
  rw [sPay_12 A c]
  iintro ⟨HO, H7, HzS12⟩
  sl_exec
  iapply (wp_wait_r A K 1 2 c [] (by decide +revert) _ (by rfl) (credit_slotM 2)) $$ [HcR1 HO HpR1]
  · isplitr; · iexact HR
    isplitr; · iexact Hlev
    isplitl [HcR1]; · iexact HcR1
    isplitl [HO]; · iexact HO
    iexact HpR1
  rw [rPay_12 A c]
  iintro ⟨HO, H92, HzR12⟩
  sl_exec
  iapply (wp_load 𝒱₀ (c : Thread nD τ) none Set.univ (m := m9) (ld_M 2 0)) $$ H92
  iintro H92
  sl_exec
  iapply (wp_load 𝒱₀ (c : Thread nD τ) none Set.univ (m := m9) (ld_M 2 1)) $$ H92
  iintro H92
  sl_exec
  iapply (wp_load 𝒱₀ (c : Thread nD τ) none Set.univ (m := m8) (ld_O 2)) $$ H82
  iintro H82
  sl_exec
  rw [writes6 (accO2 A c) (accO3 A c)]
  rotate_left
  · refine List.forall_mem_cons.mpr ⟨?_, List.forall_mem_nil _⟩
    refine piece_all (accO3 A c) _ ?_
    dsimp only
    rfl
  · exact View.cover_of_tiled _ ![2, 8, 512, 64] rfl
  rw [writes7 (accML2 A c) (accML3 A c)]
  rotate_left
  · refine List.forall_mem_cons.mpr ⟨?_, List.forall_mem_cons.mpr ⟨?_, List.forall_mem_nil _⟩⟩
    · refine piece_row1 2 (accML2 A c) (accML2 A (prt 2 c)) _ ?_
      dsimp only
      rfl
    · refine piece_row0 2 (accML2 A c) (accML2 A (prt 2 c)) _ ?_
      dsimp only
      rfl
  · exact View.cover_of_tiled _ ![2, 8, 1, 512] rfl
  rw [writes5 f5 (outV A c)]
  rotate_left
  · refine List.forall_mem_cons.mpr ⟨?_, List.forall_mem_cons.mpr ⟨?_, List.forall_mem_nil _⟩⟩
    · refine piece_out1 A c _ ?_
      dsimp only
      refine out1_of _ _ _ _ _ _ _ _ _ _ _ _ _ ?_ ?_ rfl rfl rfl rfl rfl rfl rfl rfl
      · dsimp only [body_sound.sl.v716, body_sound.sl.v718, body_sound.sl.H6_1]
        refine cov6 (accO3 A c) _ _ ?_ ?_
        · refine List.forall_mem_cons.mpr ⟨?_, List.forall_mem_nil _⟩
          refine piece_all (accO3 A c) _ ?_
          dsimp only
          rfl
        · exact View.cover_of_tiled _ ![2, 8, 512, 64] rfl
      · dsimp only [body_sound.sl.v716, body_sound.sl.v718, body_sound.sl.H6_1]
        refine cov7 (accML3 A c) _ _ ?_ ?_
        · refine List.forall_mem_cons.mpr ⟨?_, List.forall_mem_cons.mpr ⟨?_, List.forall_mem_nil _⟩⟩
          · refine piece_row1 2 (accML2 A c) (accML2 A (prt 2 c)) _ ?_
            dsimp only
            rfl
          · refine piece_row0 2 (accML2 A c) (accML2 A (prt 2 c)) _ ?_
            dsimp only
            rfl
        · exact View.cover_of_tiled _ ![2, 8, 1, 512] rfl
    · refine piece_out0 A c _ ?_
      dsimp only
      refine out0_of _ _ _ _ _ _ _ _ _ _ _ _ _ _ ?_ ?_ rfl rfl rfl rfl rfl rfl rfl rfl rfl
      · dsimp only [body_sound.sl.v716, body_sound.sl.v718, body_sound.sl.H6_1]
        refine cov6 (accO3 A c) _ _ ?_ ?_
        · refine List.forall_mem_cons.mpr ⟨?_, List.forall_mem_nil _⟩
          refine piece_all (accO3 A c) _ ?_
          dsimp only
          rfl
        · exact View.cover_of_tiled _ ![2, 8, 512, 64] rfl
      · dsimp only [body_sound.sl.v716, body_sound.sl.v718, body_sound.sl.H6_1]
        refine cov7 (accML3 A c) _ _ ?_ ?_
        · refine List.forall_mem_cons.mpr ⟨?_, List.forall_mem_cons.mpr ⟨?_, List.forall_mem_nil _⟩⟩
          · refine piece_row1 2 (accML2 A c) (accML2 A (prt 2 c)) _ ?_
            dsimp only
            rfl
          · refine piece_row0 2 (accML2 A c) (accML2 A (prt 2 c)) _ ?_
            dsimp only
            rfl
        · exact View.cover_of_tiled _ ![2, 8, 1, 512] rfl
  · exact View.cover_of_tiled _ ![1, 512, 768] rfl
  sl_step
  ihave H8 := (join_O c _ _ _) $$ [H80 H81 H82]
  · unfold slotOPts
    isplitl [H80]; · iexact H80
    isplitl [H81]; · iexact H81
    iexact H82
  ihave H9 := (join_M c _ _ _) $$ [H90 H91 H92]
  · unfold slotMPts
    isplitl [H90]; · iexact H90
    isplitl [H91]; · iexact H91
    iexact H92
  unfold bodyPost xDone
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HzB]; · iexact HzB
  isplitl [HzS00 HzS10 HzR00 HzR10]
  · isplitl [HzS00]; · iexact HzS00
    isplitl [HzS10]; · iexact HzS10
    isplitl [HzR00]; · iexact HzR00
    iexact HzR10
  isplitl [HzS01 HzS11 HzR01 HzR11]
  · isplitl [HzS01]; · iexact HzS01
    isplitl [HzS11]; · iexact HzS11
    isplitl [HzR01]; · iexact HzR01
    iexact HzR11
  isplitl [HzS02]; · iexact HzS02
  isplitl [HzS12]; · iexact HzS12
  isplitl [HzR02]; · iexact HzR02
  iexact HzR12

end Cert.Exchange
-- ==== Proof.Launch.lean ====
/-
The launch: what the eight devices start from is dealt to them, each device's body runs by `body_sound`, and the
final memory is read off the windows' arrays. `run_main` states it for any float values.
-/
module

public import proofs.«01_k».proof.Proof.Body
public import proofs.«01_k».proof.Proof.Gen.KernelIdeal.Points

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (A : Args F) (m : (ℓ : Loc nD τ sig) → Buf (Elt F) ℓ) (ρ : Dev nD → PrngReg)

/-! ## The pipeline's data -/

/-- The block of window `w`'s array at the grid's one point. -/
def blkOf (c : Dev nD) (w : Fin cfg0.W) : ((cfg0.win w).xblock (cfg0.grid.coords t0_0)).Idx → Elt F (cfg0.win w).elt :=
  ((cfg0.win w).blk t0_0).view.read (Elt F) (m ((cfg0.win w).arr.view.loc (c : Thread nD τ)))

/-- The argument blocks the devices hold. -/
def argsOf : Args F := ⟨fun c => blkOf m c (0 : Fin 6), fun c => blkOf m c (1 : Fin 6), fun c => blkOf m c (2 : Fin 6), fun c => blkOf m c (3 : Fin 6), fun c => blkOf m c (4 : Fin 6)⟩

/-- What the body finds besides its windows. -/
def Φ₀ (c : Dev nD) : sProp 𝕄 :=
  iprop(start (argsOf m) c ∗ (∃ f, (m6.view.loc (c : Thread nD τ)) ↦{fullShare} f) ∗ (∃ f, (m7.view.loc (c : Thread nD τ)) ↦{fullShare} f)
    ∗ (∃ f, (m8.view.loc (c : Thread nD τ)) ↦{fullShare} f) ∗ (∃ f, (m9.view.loc (c : Thread nD τ)) ↦{fullShare} f))
/-- What it leaves besides them. -/
def Φ₁ (c : Dev nD) : sProp 𝕄 :=
  iprop((∃ f, (m6.view.loc (c : Thread nD τ)) ↦{fullShare} f) ∗ (∃ f, (m7.view.loc (c : Thread nD τ)) ↦{fullShare} f)
    ∗ (∃ f, (m8.view.loc (c : Thread nD τ)) ↦{fullShare} f) ∗ (∃ f, (m9.view.loc (c : Thread nD τ)) ↦{fullShare} f)
    ∗ semVal (barCell c) 0 ∗ xDone 0 c ∗ xDone 1 c ∗ xDone 2 c)

/-- What each window's array holds before the run, what its block holds after the body, and what the device keeps besides. -/
def dats (_ : Fin 1) (c : Dev nD) : Dat τ (Elt F) Unit ℕ UU ℕ cfg0 c where
  A w := m ((cfg0.win w).arr.view.loc (c : Thread nD τ))
  after w _ := match w with
    | ⟨0, _⟩ => (argsOf m).x c
    | ⟨1, _⟩ => (argsOf m).wq c
    | ⟨2, _⟩ => (argsOf m).k c
    | ⟨3, _⟩ => (argsOf m).v c
    | ⟨4, _⟩ => (argsOf m).wo c
    | ⟨5, _⟩ => outV (argsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole buffer with contents `X` is the points-to of that buffer at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, window by window. -/
def stepPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
/-- What it takes back. -/
def stepPost (c : Dev nD) : sProp 𝕄 :=
  iprop(Φ₁ c ∗ (dats m 0 c).owesAt () t0_0.succ
    ∗ stg c cc0_stg0_0 ((argsOf m).x c) ∗ stg c cc0_stg1_0 ((argsOf m).wq c) ∗ stg c cc0_stg2_0 ((argsOf m).k c) ∗ stg c cc0_stg3_0 ((argsOf m).v c)
    ∗ stg c cc0_stg4_0 ((argsOf m).wo c) ∗ stg c cc0_stg5_0 (outV (argsOf m) c))

/-- The body finds the argument blocks in the five input windows. -/
theorem before_0 (c : Dev nD) (d) : (dats m 0 c).before (0 : Fin 6) t0_0 d = (argsOf m).x c := by unfold Dat.before; rw [if_pos (fetch0_0 t0_0)]; rfl
theorem before_1 (c : Dev nD) (d) : (dats m 0 c).before (1 : Fin 6) t0_0 d = (argsOf m).wq c := by unfold Dat.before; rw [if_pos (fetch0_1 t0_0)]; rfl
theorem before_2 (c : Dev nD) (d) : (dats m 0 c).before (2 : Fin 6) t0_0 d = (argsOf m).k c := by unfold Dat.before; rw [if_pos (fetch0_2 t0_0)]; rfl
theorem before_3 (c : Dev nD) (d) : (dats m 0 c).before (3 : Fin 6) t0_0 d = (argsOf m).v c := by unfold Dat.before; rw [if_pos (fetch0_3 t0_0)]; rfl
theorem before_4 (c : Dev nD) (d) : (dats m 0 c).before (4 : Fin 6) t0_0 d = (argsOf m).wo c := by unfold Dat.before; rw [if_pos (fetch0_4 t0_0)]; rfl

/-- The body's postcondition is what the pipeline takes back. -/
theorem post_step (c : Dev nD) : bodyPost (argsOf m) c ⊢ stepPost m c := by
  unfold bodyPost stepPost Φ₁ Dat.owesAt Pipeline.owesWithin owesA
  iintro ⟨⟨%W, HO⟩, H0, H1, H2, H3, H4, H5, H6, H7, H8, H9, HB, HD0, HD1, HD2⟩
  isplitl [H6 H7 H8 H9 HB HD0 HD1 HD2]
  · isplitl [H6]; · iexact H6
    isplitl [H7]; · iexact H7
    isplitl [H8]; · iexact H8
    isplitl [H9]; · iexact H9
    isplitl [HB]; · iexact HB
    isplitl [HD0]; · iexact HD0
    isplitl [HD1]; · iexact HD1
    iexact HD2
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-- Device `c`'s body takes what the pipeline hands it to what it takes back. -/
theorem step_sound (c : Dev nD) : stepPre m c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5)
    fun _ => stepPost m c := by
  unfold stepPre Φ₀ start Dat.owesAt Pipeline.owesWithin
  iintro ⟨⟨⟨⟨%K, #HR, HL⟩, Hc, #Hlev⟩, ⟨%f6, H6⟩, ⟨%f7, H7⟩, ⟨%f8, H8⟩, ⟨%f9, H9⟩⟩, ⟨%W, %hW, HO⟩, ⟨%d0, %g0, %hg0, H0⟩, ⟨%d1, %g1, %hg1, H1⟩, ⟨%d2, %g2, %hg2, H2⟩,
    ⟨%d3, %g3, %hg3, H3⟩, ⟨%d4, %g4, %hg4, H4⟩, ⟨%d5, %f5, %hg5, H5⟩⟩
  obtain rfl : g0 = (argsOf m).x c := hg0.trans (before_0 m c d0)
  obtain rfl : g1 = (argsOf m).wq c := hg1.trans (before_1 m c d1)
  obtain rfl : g2 = (argsOf m).k c := hg2.trans (before_2 m c d2)
  obtain rfl : g3 = (argsOf m).v c := hg3.trans (before_3 m c d3)
  obtain rfl : g4 = (argsOf m).wo c := hg4.trans (before_4 m c d4)
  iapply ((body_sound (argsOf m) K c f5 f6 f7 f8 f9).trans (wp_mono _ _ _ fun _ => post_step m c))
  unfold bodyPre owesA
  isplitr
  · isplitr; · iexact HR
    iexact Hlev
  isplitl [HL]; · iexact HL
  isplitl [Hc]; · iexact Hc
  isplitl [HO]; · iexists W; iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact step_sound m c

end Cert.Exchange

end
-- ==== Proof.Run.lean ====
/-
The run of the eight devices: the cells and tokens dealt at the launch, the credit each device starts with, and
`run_main`, for any float values.
-/
module

public import proofs.«01_k».proof.Proof.Launch
public import Idealize.ShloMosaic.Lib.Pipeline.CollectiveSegs

@[expose] public section

set_option maxRecDepth 16384

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (A : Args F) (m : (ℓ : Loc nD τ sig) → Buf (Elt F) ℓ) (ρ : Dev nD → PrngReg)

/-! ## The cells and the tokens -/

/-- The kernel's own twelve semaphores: six send, six receive. -/
abbrev osem : Fin 12 → SemLoc sig := fun i => .dma ⟨6 + i.val, by have := i.isLt; show 6 + i.val < 18; omega⟩
/-- They are none of the pipeline's own. -/
theorem ownSemFacts : Pipeline.OwnSemFacts cfg0.spec osem := by decide
/-- Every window's array is held whole. -/
theorem share_eq (c : Dev nD) (w : Fin cfg0.W) : (dats m 0 c).share w = fullShare := by unfold Dat.share; split <;> rfl

/-- Different cell numbers are different semaphores, and so different cells. -/
theorem csem_injective : Function.Injective csem := by decide
theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the cells of the protocol: thirteen on each device. -/
def xCells : Finset (GSem nD τ sig) := Finset.univ.map ⟨kcell, kcell_injective⟩

/-- The fifteen duty tokens of a device's own cells: the barrier's three, then one for each transfer cell. -/
abbrev tokI (i : Fin 15) : Fin 13 := ⟨i.val - 2, by omega⟩
/-- The duty of token `i`. -/
abbrev tokD (i : Fin 15) : Fin 3 := if h : i.val < 3 then ⟨i.val, h⟩ else 0
/-- Device and token number, as cell, round and duty. -/
abbrev tokOf (ci : Dev nD × Fin 15) : GSem nD τ sig × ℕ × Fin 3 := (kcell (ci.1, tokI ci.2), 0, tokD ci.2)
/-- No two tokens are the same. -/
theorem tok_cases : ∀ i i' : Fin 15, tokI i = tokI i' → tokD i = tokD i' → i = i' := by decide
theorem tokOf_injective : Function.Injective (tokOf : Dev nD × Fin 15 → GSem nD τ sig × ℕ × Fin 3) := by
  rintro ⟨c, i⟩ ⟨c', i'⟩ h
  have h1 := kcell_injective (congrArg Prod.fst h)
  have h2 : tokD i = tokD i' := congrArg (fun x : GSem nD τ sig × ℕ × Fin 3 => x.2.2) h
  have h3 : c = c' := congrArg Prod.fst h1
  have h4 : tokI i = tokI i' := congrArg Prod.snd h1
  rw [h3, tok_cases i i' h4 h2]
/-- All the tokens. -/
def xTokens : Finset (GSem nD τ sig × ℕ × Fin 3) := Finset.univ.map ⟨tokOf, tokOf_injective⟩

/-- The ghost state that the run starts from. -/
def u₀ : UU :=
  (initOf (Pipeline.cells cfgs cellOf_inj) (Pipeline.launchToks cfgs cellOf_inj), initOf xCells xTokens)

/-- The duty tokens of device `c`'s own cells. -/
def toks (c : Dev nD) : sProp 𝕄 := bigSep Finset.univ fun i : Fin 15 => dutyTok ER (tokOf (c, i)).1 (tokOf (c, i)).2.1 (tokOf (c, i)).2.2

/-- What the launch deals device `c`. -/
def G (c : Dev nD) : sProp 𝕄 :=
  iprop((bigSep Finset.univ fun k : Fin 13 => roundState ER (xRd A) (kcell (c, k)) 0)
    ∗ (bigSep Finset.univ fun k : Fin 13 => iprop(atPos ER (kcell (c, k)) 0 ∅ 0 ∗ reached ER (kcell (c, k)) 0)) ∗ toks c)
/-- What it holds once every cell's invariant is made. -/
def G' (c : Dev nD) : sProp 𝕄 := iprop(∃ K, records A K ∗ linear c)

/-- The protocol's part of it yields every device's cells and tokens. -/
theorem fund_cells : BI.own (ER (initOf xCells xTokens)) ⊢ (|==> bigSep Finset.univ (G A) : sProp 𝕄) := by
  have hX (Φ : GSem nD τ sig → sProp 𝕄) : bigSep xCells Φ = bigSep Finset.univ fun c : Dev nD => bigSep Finset.univ fun k : Fin 13 => Φ (kcell (c, k)) := by
    unfold xCells; rw [bigSep_map, bigSep_univ_prod]; rfl
  have hT : bigSep xTokens (fun x => (dutyTok ER x.1 x.2.1 x.2.2 : sProp 𝕄)) = bigSep Finset.univ fun c : Dev nD => toks c := by
    unfold xTokens; rw [bigSep_map, bigSep_univ_prod]; rfl
  iintro HX
  imod (Rounds.fund ER (xRd A) xCells xTokens) $$ HX with ⟨Hst, Hr, Hat, Htok⟩
  imodintro
  ihave Hst' := (Entails.of_eq (hX fun g => roundState ER (xRd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

/-- A product over the thirteen cells, and over the fifteen tokens, written out. -/
theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The kernel's own semaphores at zero, written out. -/
theorem ownSems0_eq (c : Dev nD) : (Pipeline.ownSems0 (Ix := Unit) (Name := ℕ) (U := UU) (Lvl := ℕ) (Val := Elt F) (τ := τ) osem c : sProp 𝕄)
    = iprop(semVal (sCell 0 0 c) 0 ∗ semVal (sCell 0 1 c) 0 ∗ semVal (sCell 0 2 c) 0 ∗ semVal (sCell 1 0 c) 0 ∗ semVal (sCell 1 1 c) 0 ∗ semVal (sCell 1 2 c) 0
      ∗ semVal (rCell 0 0 c) 0 ∗ semVal (rCell 0 1 c) 0 ∗ semVal (rCell 0 2 c) 0 ∗ semVal (rCell 1 0 c) 0 ∗ semVal (rCell 1 1 c) 0 ∗ semVal (rCell 1 2 c) 0) := by
  rw [Pipeline.ownSems0_eq_of_list c osem [0, 1, 2, 3, 4, 5, 6, 7, 8, 9, 10, 11] (by decide) (by decide)]; rfl
/-- The barrier semaphore at zero. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The two together are the thirteen cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [ownSems0_eq, unscopedSems0_eq, bigSep_fin13]
  iintro ⟨HS, HB⟩
  isplitl [HB]; · iexact HB
  iexact HS

/-- A device's thirteen semaphores at zero become the protocol's cells. -/
theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k : Fin 13 => iprop(∃ κ : ℕ, cellInv ER (xRd A) κ (kcell (c, k))))
          ∗ (bigSep Finset.univ fun k : Fin 13 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (xRd A) (kcell (c, k)) 0)
      ⊢ (|={Set.univ}=> bigSep Finset.univ fun k => iprop(∃ κ : ℕ, cellInv ER (xRd A) κ (kcell (c, k))) : sProp 𝕄) from by
        rw [← bigSep_sep']
        exact (bigSep_mono fun k _ => (Rounds.body_intro ER (xRd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those who pay them -/

/-- The tokens of exchange `k` of device `c`'s own cells. -/
def xOwn (k : Fin 3) (c : Dev nD) : sProp 𝕄 :=
  iprop(dutyTok ER (barCell c) 0 k ∗ dutyTok ER (sCell 0 k c) 0 0 ∗ dutyTok ER (sCell 1 k c) 0 0 ∗ dutyTok ER (rCell 0 k c) 0 0 ∗ dutyTok ER (rCell 1 k c) 0 0)

/-- A device's tokens, sorted by exchange. -/
theorem toks_own (c : Dev nD) : (toks c : sProp 𝕄) ⊢ iprop(xOwn 0 c ∗ xOwn 1 c ∗ xOwn 2 c) := by
  unfold toks xOwn
  rw [bigSep_fin15]
  iintro ⟨B0, B1, B2, S00, S01, S02, S10, S11, S12, R00, R01, R02, R10, R11, R12⟩
  isplitl [B0 S00 S10 R00 R10]
  · isplitl [B0]; · iexact B0
    isplitl [S00]; · iexact S00
    isplitl [S10]; · iexact S10
    isplitl [R00]; · iexact R00
    iexact R10
  isplitl [B1 S01 S11 R01 R11]
  · isplitl [B1]; · iexact B1
    isplitl [S01]; · iexact S01
    isplitl [S11]; · iexact S11
    isplitl [R01]; · iexact R01
    iexact R11
  isplitl [B2]; · iexact B2
  isplitl [S02]; · iexact S02
  isplitl [S12]; · iexact S12
  isplitl [R02]; · iexact R02
  iexact R12

/-- The tokens of exchange `k`, each dealt to the device that pays it. -/
theorem own_toks (k : Fin 3) : (bigSep Finset.univ fun c : Dev nD => (xOwn k c : sProp 𝕄)) ⊢ bigSep Finset.univ fun c : Dev nD => xToks k c := by
  unfold xOwn xToks
  rw [bigSep_sep', bigSep_sep', bigSep_sep', bigSep_sep', bigSep_sep', bigSep_sep', bigSep_sep', bigSep_sep',
    bigSep_univ_equiv (prtE k) (fun c : Dev nD => (dutyTok ER (barCell c) 0 k : sProp 𝕄)),
    bigSep_univ_equiv (prtE k) (fun c : Dev nD => (dutyTok ER (rCell 0 k c) 0 0 : sProp 𝕄)),
    bigSep_univ_equiv (prtE k) (fun c : Dev nD => (dutyTok ER (rCell 1 k c) 0 0 : sProp 𝕄))]
  exact BI.Entails.refl _

/-- The tokens dealt to those who pay them: a device's barrier and receive tokens go to its partners. -/
theorem toks_around : (bigSep Finset.univ fun c : Dev nD => (toks c : sProp 𝕄)) ⊢ bigSep Finset.univ fun c : Dev nD => iprop(xToks 0 c ∗ xToks 1 c ∗ xToks 2 c) := by
  refine (bigSep_mono fun c _ => toks_own c).trans ?_
  rw [bigSep_sep', bigSep_sep', bigSep_sep', bigSep_sep']
  exact BI.sep_mono (own_toks 0) (BI.sep_mono (own_toks 1) (own_toks 2))

/-- A device's positions, cell by cell. -/
theorem pos_own (c : Dev nD) : (bigSep Finset.univ fun k : Fin 13 => (atPos ER (kcell (c, k)) 0 ∅ 0 : sProp 𝕄)) ⊢ iprop(atPos ER (barCell c) 0 ∅ 0 ∗ (xPos 0 c ∗ xPos 1 c ∗ xPos 2 c)) := by
  unfold xPos
  rw [bigSep_fin13]
  iintro ⟨B, S00, S01, S02, S10, S11, S12, R00, R01, R02, R10, R11, R12⟩
  isplitl [B]; · iexact B
  isplitl [S00 S10 R00 R10]
  · isplitl [S00]; · iexact S00
    isplitl [S10]; · iexact S10
    isplitl [R00]; · iexact R00
    iexact R10
  isplitl [S01 S11 R01 R11]
  · isplitl [S01]; · iexact S01
    isplitl [S11]; · iexact S11
    isplitl [R01]; · iexact R01
    iexact R11
  isplitl [S02]; · iexact S02
  isplitl [S12]; · iexact S12
  isplitl [R02]; · iexact R02
  iexact R12

/-- What can be copied is given to every device. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and a device's own share are what the body's start asks for. -/
theorem ghost_intro (K : Dev nD × Fin 13 → ℕ) (c : Dev nD) : iprop(records A K ∗ linear c) ⊢ G' A c := by
  unfold G'
  iintro H
  iexists K
  iexact H

/-- The cells and the tokens of all devices, dealt to the devices. -/
theorem regroup :
    (bigSep Finset.univ fun c : Dev nD => iprop((bigSep Finset.univ fun k : Fin 13 => iprop(∃ κ : ℕ, cellInv ER (xRd A) κ (kcell (c, k))))
          ∗ (bigSep Finset.univ fun k : Fin 13 => iprop(atPos ER (kcell (c, k)) 0 ∅ 0 ∗ reached ER (kcell (c, k)) 0)) ∗ toks c) : sProp 𝕄)
      ⊢ bigSep Finset.univ (G' A) := by
  rw [bigSep_sep', bigSep_sep', ← bigSep_univ_prod (fun ck : Dev nD × Fin 13 => iprop(∃ κ : ℕ, cellInv ER (xRd A) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok⟩
  ihave HK := (BI.bigSep_exists_pi Finset.univ (fun (ck : Dev nD × Fin 13) (κ : ℕ) => (cellInv ER (xRd A) κ (kcell ck) : sProp 𝕄))) $$ HI
  icases HK with ⟨%K, #HI⟩
  ihave Htk := (toks_around (F := F)) $$ Htok
  iapply (bigSep_with_persistent (R := records A K) fun c _ => ghost_intro A K c)
  isplitr
  · unfold records; isplitl; · iexact HI
    iexact HR
  · iapply ((Entails.of_eq (bigSep_sep' Finset.univ (fun c : Dev nD => bigSep Finset.univ fun k : Fin 13 => (atPos ER (kcell (c, k)) 0 ∅ 0 : sProp 𝕄))
        (fun c => iprop(xToks 0 c ∗ xToks 1 c ∗ xToks 2 c))).symm).trans
      (bigSep_mono fun c _ => show _ ⊢ linear c from (sep_mono_left (pos_own c)).trans (by
        unfold linear
        iintro ⟨⟨H1, H2⟩, H3⟩
        isplitl [H1]; · iexact H1
        isplitl [H2]; · iexact H2
        iexact H3)))
    isplitl [Hat]; · iexact Hat
    iexact Htk

/-- From all semaphores at zero and the ghost state to what every device's body starts with. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credit a device starts with -/

/-- Barrier cells are equal when their devices are. -/
theorem bar_eq_iff {a b : Dev nD} : Iff (barCell a = barCell b) (a = b) :=
  ⟨fun h => congrArg (fun g : GSem nD τ sig => g.1.1) h, fun h => h ▸ rfl⟩
/-- Receive cells are equal when kind, exchange and device are; and none is a barrier cell. -/
theorem rS_inj : ∀ j j' : Fin 2, ∀ k k' : Fin 3, rS j k = rS j' k' → j = j' ∧ k = k' := by decide
theorem rcell_eq_iff {a b : Dev nD} {j j' : Fin 2} {k k' : Fin 3} : Iff (rCell j k a = rCell j' k' b) (j = j' ∧ k = k' ∧ a = b) := by
  constructor
  · intro h
    have h1 : a = b := congrArg (fun g : GSem nD τ sig => g.1.1) h
    have h2 : rS j k = rS j' k' := SemLoc.dma.inj (congrArg Prod.snd h)
    obtain ⟨h3, h4⟩ := rS_inj _ _ _ _ h2
    exact ⟨h3, h4, h1⟩
  · rintro ⟨rfl, rfl, rfl⟩; rfl
theorem bar_ne_r {a b : Dev nD} {j : Fin 2} {k : Fin 3} : barCell a ≠ rCell j k b := fun h => by cases congrArg Prod.snd h

/-- What a list of dues owes to a cell, entry by entry. -/
theorem oweL_cons (p : GSem nD τ sig × ℕ) (t : List (GSem nD τ sig × ℕ)) (g : GSem nD τ sig) : oweL (p :: t) g () = oweL t g () + if g = p.1 then p.2 else 0 := by
  show (oweL t + tallyAt p.1 () p.2) g () = _
  rw [Pi.add_apply, Finsupp.add_apply, tallyAt_apply]
  simp only [and_true]
theorem oweL_nil (g : GSem nD τ sig) : oweL [] g () = 0 := rfl

/-- Partnership is mutual. -/
theorem prt_eq_iff (k : Fin 3) (c d : Dev nD) : Iff (c = prt k d) (d = prt k c) :=
  ⟨fun h => by rw [h, prt_prt], fun h => by rw [h, prt_prt]⟩

/-- What device `d` owes device `c`'s barrier: a unit for each exchange they are partners of. -/
theorem owed_bar (d c : Dev nD) : O₀ d (barCell c) () = (if d = prt 2 c then 1 else 0) + (if d = prt 1 c then 1 else 0) + (if d = prt 0 c then 1 else 0) := by
  unfold O₀ dues dues6 dueR
  simp only [oweL_cons, oweL_nil, if_neg bar_ne_r, bar_eq_iff, Nat.add_zero, Nat.zero_add, prt_eq_iff _ c d]
/-- What it owes its receive cell of exchange `k`. -/
theorem owed_r (j : Fin 2) (k : Fin 3) (d c : Dev nD) : O₀ d (rCell j k c) () = if d = prt k c then amt j else 0 := by
  unfold O₀ dues dues6 dueR
  simp only [oweL_cons, oweL_nil, if_neg (Ne.symm bar_ne_r), rcell_eq_iff, Nat.add_zero, Nat.zero_add]
  fin_cases j <;> fin_cases k <;> simp [prt_eq_iff _ c d]

/-- All devices together owe a barrier cell three signals, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (prt 0 c) fun _ => 1, Finset.sum_ite_eq' Finset.univ (prt 1 c) fun _ => 1, Finset.sum_ite_eq' Finset.univ (prt 2 c) fun _ => 1,
    if_pos (Finset.mem_univ _), if_pos (Finset.mem_univ _), if_pos (Finset.mem_univ _)]
/-- and a receive cell one landing. -/
theorem launch_r (j : Fin 2) (k : Fin 3) (c : Dev nD) :
    tallyOn (rCell j k c) (launchCredit (Pipeline.owing O₀) 0 (rCell j k c)) = (tallyAt (rCell j k c) () (amt j) : CellTallies nD τ sig Unit) := by
  unfold tallyAt; refine congrArg _ (Finsupp.ext fun u => ?_); cases u
  rw [Pipeline.launchCredit_owing, Finsupp.single_eq_same, Finset.sum_congr rfl fun d _ => owed_r j k d c, Finset.sum_ite_eq' Finset.univ (prt k c) fun _ => amt j,
    if_pos (Finset.mem_univ _)]

/-- The seven semaphores a device is owed at. -/
abbrev credSems : Finset (SemLoc sig) := {.reg barS, .dma (rS 0 0), .dma (rS 1 0), .dma (rS 0 1), .dma (rS 1 1), .dma (rS 0 2), .dma (rS 1 2)}
/-- A product over the semaphores that carry credit, written out. -/
theorem bigSep_credSems (Φ : SemLoc sig → sProp 𝕄) : bigSep credSems Φ
    = iprop(Φ (.reg barS) ∗ Φ (.dma (rS 0 0)) ∗ Φ (.dma (rS 1 0)) ∗ Φ (.dma (rS 0 1)) ∗ Φ (.dma (rS 1 1)) ∗ Φ (.dma (rS 0 2)) ∗ Φ (.dma (rS 1 2))) := by
  rw [bigSep_eq_bigSepL_of_eq [SemLoc.reg barS, .dma (rS 0 0), .dma (rS 1 0), .dma (rS 0 1), .dma (rS 1 1), .dma (rS 0 2), .dma (rS 1 2)] (by decide) (by decide)]
  rfl
/-- The credit a device starts with is what its body waits on. -/
theorem creds_intro (c : Dev nD) : (Pipeline.launchCred O₀ c : sProp 𝕄) ⊢ creds c := by
  unfold Pipeline.launchCred creds xCred
  refine BIBase.Entails.trans (BI.bigSep_subset (Finset.subset_univ credSems)) ?_
  rw [bigSep_credSems,
    ← launch_bar, ← launch_r 0 0, ← launch_r 1 0, ← launch_r 0 1, ← launch_r 1 1, ← launch_r 0 2, ← launch_r 1 2]
  iintro ⟨B, R00, R10, R01, R11, R02, R12⟩
  isplitl [B]; · iexact B
  isplitl [R00 R10]
  · isplitl [R00] <;> iassumption
  isplitl [R01 R11]
  · isplitl [R01] <;> iassumption
  isplitl [R02] <;> iassumption

/-! ## The side conditions -/

/-- What the launch gives a device, as the body's start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(start (argsOf m) c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

/-- The same with the scratch buffers. -/
theorem phi0_intro (c : Dev nD) :
    iprop(start (argsOf m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What the body leaves besides its windows is what the launch takes back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ xDone
  iintro ⟨H6, H7, H8, H9, HB, ⟨S00, S10, R00, R10⟩, ⟨S01, S11, R01, R11⟩, ⟨S02, S12, R02, R12⟩⟩
  isplitl [HB]; · iexact HB
  isplitl [S00 S10 R00 R10 S01 S11 R01 R11 S02 S12 R02 R12]
  · isplitl [S00]; · iexact S00
    isplitl [S01]; · iexact S01
    isplitl [S02]; · iexact S02
    isplitl [S10]; · iexact S10
    isplitl [S11]; · iexact S11
    isplitl [S12]; · iexact S12
    isplitl [R00]; · iexact R00
    isplitl [R01]; · iexact R01
    isplitl [R02]; · iexact R02
    isplitl [R10]; · iexact R10
    isplitl [R11]; · iexact R11
    iexact R12
  isplitl [H6]; · iexact H6
  isplitl [H7]; · iexact H7
  isplitl [H8]; · iexact H8
  iexact H9

/-- Every due of a device lies above the pipeline's own semaphores, -/
theorem dues_above (c : Dev nD) (q : DmaSem sig) (hq : q.val < 6) : ∀ p ∈ dues c, p.1.1.2 = .tc ∧ semLv (.dma q) < semLv p.1.2 := by
  have h0 : semLv (.dma q) = 0 := if_pos (by omega)
  rw [h0]
  revert c
  decide
/-- so that the pipeline may wait on those while the device still owes. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · exact mayWait_of c (.dma q) (dues c) (dues_above c q hq)
  · rw [MayWait_zero]; iintro -; iempintro

/-- All the pipeline's waits are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The contents a window's array ends with. -/
def finalA (c : Dev nD) (w : Fin cfg0.W) : Buf (Elt F) ((cfg0.win w).arr.view.loc (c : Thread nD τ)) := (dats m 0 c).arrAt w cfg0.N

/-- The end of the run: every window's array at its final contents. -/
def QC : PUnit × MemSt nD τ sig (Elt F) → Prop := fun r =>
  ∀ c : Dev nD, ∀ w : Fin cfg0.W, r.2.mem ((cfg0.win w).arr.view.loc (c : Thread nD τ)) = finalA m c w

/-- The eight devices' run ends, from any memory with zero counters, with every window's array at `finalA` and every
    counter at zero. -/
theorem run_main : θ_run (defs (F := F)) (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argsOf m)) (G' := G' (argsOf m)) (u₀ := u₀)
    (hu₀ := by
      unfold u₀
      iintro Hu
      ihave H := (ownU_pair _ _) $$ Hu
      icases H with ⟨HP, HX⟩
      imod (fund_cells (argsOf m)) $$ HX with HG
      imodintro
      isplitl [HP] <;> iassumption)
    (hglob := glob (argsOf m))
    (hA := fun _ _ => rfl) (hpf := fun _ k => k.elim0)
    (X := start (argsOf m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Frames.lean ====
/-
The frame claims of the kernel, both of its spellings: the run with its values dropped.
-/
module

public import proofs.«01_k».proof.Proof.Run
public import proofs.«01_k».proof.Proof.Gen.Kernel
public import proofs.«01_k».proof.Defs

@[expose] public section

set_option maxRecDepth 16384

noncomputable section

namespace Cert.Exchange

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- An argument array ends as it was. -/
theorem finalA_in (c : Dev nD) (w : Fin cfg0.W) (h : (cfg0.win w).isOut = false) : finalA m c w = m ((cfg0.win w).arr.view.loc (c : Thread nD τ)) :=
  (dats (F := F) m 0 c).arrAt_in w h _

/-- The run, read at the arguments and the result. -/
theorem run_args : θ_run (defs (F := F)) (onTc (τ := τ) (main (F := F))) ⟨m, fun _ => 0, ρ⟩ (fun r => (∀ c : Dev nD,
      r.2.mem ((c.tc : Thread nD τ).loc main_v1) = finalA m c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨h.1 c (5 : Fin 6), (h.1 c (0 : Fin 6)).trans (finalA_in m c _ rfl), (h.1 c (1 : Fin 6)).trans (finalA_in m c _ rfl),
    (h.1 c (2 : Fin 6)).trans (finalA_in m c _ rfl), (h.1 c (3 : Fin 6)).trans (finalA_in m c _ rfl), (h.1 c (4 : Fin 6)).trans (finalA_in m c _ rfl)⟩, h.2⟩) (run_main m ρ)

/-- The run with the values dropped. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h.1 c).2, h.2⟩) (run_args m ρ)

/-- The frame of the kernel read over the extended reals. -/
theorem frame_ideal : Cert.quiescent_KernelIdeal := fun m ρ _ => run_frame (F := Ideal) m ρ

/-- The two programs' kernel tables are the same table. -/
theorem defs₀_same : Cert.Kernel.defs₀ (F := Bits) = Cert.KernelIdeal.defs₀ (F := Bits) := by
  unfold Cert.Kernel.defs₀ Cert.KernelIdeal.defs₀
  refine congrArg Defs.onTc ?_
  funext ⟨l, h⟩ y
  match l, h, y with
  | 0, _, (t, s) => rfl

/-- The two programs' body tables are the same table. -/
theorem defs_same : Cert.Kernel.defs (F := Bits) = Cert.KernelIdeal.defs (F := Bits) := by
  unfold Cert.Kernel.defs Cert.KernelIdeal.defs
  exact congrArg (Pipeline.defs Cert.KernelIdeal.pcfgs) defs₀_same

/-- The two programs' entry points are the same program. -/
theorem main_same : Cert.Kernel.main (F := Bits) = Cert.KernelIdeal.main (F := Bits) := rfl

/-- The frame of the kernel as printed: the two programs are the same text. -/
theorem frame_kernel : Cert.quiescent_Kernel := by
  intro m ρ _
  rw [defs_same, main_same]
  exact run_frame (F := Bits) m ρ

end Cert.Exchange

end
-- ==== Proof.RefFrame.lean ====
/-
The frame claim of the reference: its run with the result dropped.
-/
module

public import proofs.«01_k».proof.Proof.Gen.ReferenceIdeal.Run
public import proofs.«01_k».proof.Defs
public import Idealize.ShloMosaic.Lib.Quiescent

@[expose] public section

noncomputable section

namespace Cert.Exchange

open Idealize.ShloMosaic Idealize.ShloMosaic.TcCoe Idealize.SL.Sem

/-- The reference ends with its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Softmax.lean ====
/-
  THE SOFTMAX IN PIECES, ON EXTENDED REALS. The kernel sums a row of weights in pieces, each piece with its own
  maximum, and rescales two pieces when it joins them; the reference sums the row at once. Here is the mathematics
  that says the two agree, with no program in it: real scores, values that may be anything an extended real can be.
-/
module

public import Idealize.ShloMosaic.PureOps.Ideal
public import Mathlib.Data.EReal.Operations
public import Mathlib.Data.EReal.Inv
public import Mathlib.Analysis.SpecialFunctions.Exp

@[expose] public section

noncomputable section

namespace Cert.Exchange

open Idealize.ShloMosaic

/-- A real factor that is not negative goes into a finite sum of extended reals. -/
theorem coe_mul_sum {ι : Type*} (r : ℝ) (hr : 0 ≤ r) (T : Finset ι) (f : ι → EReal) :
    (r : EReal) * ∑ t ∈ T, f t = ∑ t ∈ T, (r : EReal) * f t := by
  classical
  induction T using Finset.induction_on with
  | empty => simp
  | insert a T ha ih =>
    rw [Finset.sum_insert ha, Finset.sum_insert ha,
      EReal.left_distrib_of_nonneg_of_ne_top (EReal.coe_nonneg.2 hr) (EReal.coe_ne_top r), ih]

/-- A finite sum of reals, read as an extended real, is the sum of the terms read so. -/
theorem coe_sum {ι : Type*} (T : Finset ι) (f : ι → ℝ) : ((∑ t ∈ T, f t : ℝ) : EReal) = ∑ t ∈ T, (f t : EReal) := by
  classical
  induction T using Finset.induction_on with
  | empty => simp
  | insert a T ha ih => rw [Finset.sum_insert ha, Finset.sum_insert ha, EReal.coe_add, ih]

/-- What one piece of a row is worth: `l` is the sum of the weights `exp (s t − μ)` over the keys `T` of the piece, and
    `o` the sum of the values under those weights. The level `μ` is some real number. -/
structure Acc {ι : Type*} (T : Finset ι) (s : ι → ℝ) (v : ι → EReal) (μ : ℝ) (l o : EReal) : Prop where
  /-- The sum of the weights. -/
  sum : l = ((∑ t ∈ T, Real.exp (s t - μ) : ℝ) : EReal)
  /-- The sum of the weighted values. -/
  out : o = ∑ t ∈ T, (Real.exp (s t - μ) : EReal) * v t

/-- Moving a sum of weights from one level to another is a product by the weight of the first level at the other. -/
theorem rescale_sum {ι : Type*} (T : Finset ι) (s : ι → ℝ) (μ μ' : ℝ) :
    Real.exp (μ - μ') * ∑ t ∈ T, Real.exp (s t - μ) = ∑ t ∈ T, Real.exp (s t - μ') := by
  rw [Finset.mul_sum]
  refine Finset.sum_congr rfl fun t _ => ?_
  rw [← Real.exp_add]; congr 1; ring

/-- The same of the weighted values. -/
theorem rescale_out {ι : Type*} (T : Finset ι) (s : ι → ℝ) (v : ι → EReal) (μ μ' : ℝ) :
    (Real.exp (μ - μ') : EReal) * ∑ t ∈ T, (Real.exp (s t - μ) : EReal) * v t
      = ∑ t ∈ T, (Real.exp (s t - μ') : EReal) * v t := by
  rw [coe_mul_sum _ (Real.exp_pos _).le]
  refine Finset.sum_congr rfl fun t _ => ?_
  rw [← mul_assoc, ← EReal.coe_mul, ← Real.exp_add]; congr 3; ring

/-- Two pieces with no key in common, each rescaled to a common level and added, are the piece of both. -/
theorem Acc.combine {ι : Type*} [DecidableEq ι] {T T' : Finset ι} {s : ι → ℝ} {v : ι → EReal} {μ μ' : ℝ}
    {l o l' o' : EReal} (h : Acc T s v μ l o) (h' : Acc T' s v μ' l' o') (hd : Disjoint T T') (ν : ℝ) :
    Acc (T ∪ T') s v ν (Ideal.exp ((μ : EReal) - ν) * l + Ideal.exp ((μ' : EReal) - ν) * l')
      (Ideal.exp ((μ : EReal) - ν) * o + Ideal.exp ((μ' : EReal) - ν) * o') := by
  rw [← EReal.coe_sub, ← EReal.coe_sub, Ideal.exp_coe, Ideal.exp_coe]
  constructor
  · rw [h.sum, h'.sum, ← EReal.coe_mul, ← EReal.coe_mul, rescale_sum, rescale_sum, ← EReal.coe_add, Finset.sum_union hd]
  · rw [h.out, h'.out, rescale_out, rescale_out, Finset.sum_union hd]

/-- The quotient of a piece is the sum of the values under the weights at any level, each divided by their sum. -/
theorem Acc.div {ι : Type*} {T : Finset ι} {s : ι → ℝ} {v : ι → EReal} {μ : ℝ} {l o : EReal}
    (h : Acc T s v μ l o) (hT : T.Nonempty) (ν : ℝ) :
    Ideal.div o l = ∑ t ∈ T, v t * Ideal.div (Real.exp (s t - ν) : EReal) ((∑ u ∈ T, Real.exp (s u - ν) : ℝ) : EReal) := by
  have hpos : ∀ κ : ℝ, 0 < ∑ t ∈ T, Real.exp (s t - κ) := fun κ => Finset.sum_pos (fun t _ => Real.exp_pos _) hT
  rw [h.sum, h.out, Ideal.div_coe (hpos μ).ne', mul_comm, coe_mul_sum _ (by have := hpos μ; positivity)]
  refine Finset.sum_congr rfl fun t _ => ?_
  rw [Ideal.div_coe (hpos ν).ne', mul_comm (v t), ← mul_assoc, ← EReal.coe_mul, ← EReal.coe_mul]
  congr 2
  rw [← rescale_sum T s μ ν]
  have h1 : Real.exp (s t - ν) = Real.exp (μ - ν) * Real.exp (s t - μ) := by rw [← Real.exp_add]; congr 1; ring
  rw [h1]
  have := hpos μ
  have := Real.exp_pos (μ - ν)
  field_simp

/-- The maximum of finitely many reals, at least one, taken from `−∞` up, is a real. -/
theorem fold_max_real {ι : Type*} (T : Finset ι) (hT : T.Nonempty) (f : ι → EReal) (hf : ∀ t ∈ T, ∃ r : ℝ, f t = r) :
    ∃ r : ℝ, T.fold max ⊥ f = r := by
  classical
  have key : ∀ T : Finset ι, (∀ t ∈ T, ∃ r : ℝ, f t = r) → (T = ∅ ∧ T.fold max ⊥ f = ⊥) ∨ ∃ r : ℝ, T.fold max ⊥ f = r := by
    intro T
    induction T using Finset.induction_on with
    | empty => intro _; exact .inl ⟨rfl, rfl⟩
    | insert a T ha ih =>
      intro h
      obtain ⟨r, hr⟩ := h a (Finset.mem_insert_self _ _)
      rw [Finset.fold_insert ha, hr]
      rcases ih fun t ht => h t (Finset.mem_insert_of_mem ht) with ⟨-, h'⟩ | ⟨q, h'⟩
      · exact .inr ⟨r, by rw [h']; exact max_eq_left bot_le⟩
      · exact .inr ⟨max r q, by rw [h']; exact (EReal.coe_strictMono.monotone.map_max).symm⟩
  rcases key T hf with ⟨h, -⟩ | h
  · exact absurd h hT.ne_empty
  · exact h

/-- A product of reals is a real. -/
theorem real_mul {a b : EReal} (ha : ∃ r : ℝ, a = r) (hb : ∃ r : ℝ, b = r) : ∃ r : ℝ, a * b = r := by
  obtain ⟨r, rfl⟩ := ha
  obtain ⟨q, rfl⟩ := hb
  exact ⟨r * q, (EReal.coe_mul r q).symm⟩

/-- A finite sum of reals is a real. -/
theorem real_sum {ι : Type*} (T : Finset ι) (f : ι → EReal) (hf : ∀ t, ∃ r : ℝ, f t = r) : ∃ r : ℝ, ∑ t ∈ T, f t = r := by
  choose g hg using hf
  exact ⟨∑ t ∈ T, g t, by rw [coe_sum]; exact Finset.sum_congr rfl fun t _ => hg t⟩

/-- A piece as it is first made: the weights of real scores at a real level, and their sums. -/
theorem Acc.of {ι : Type*} (T : Finset ι) (s : ι → ℝ) (v : ι → EReal) (e : ι → EReal) (he : ∀ t, e t = (s t : EReal)) (μ : ℝ) :
    Acc T s v μ (∑ t ∈ T, Ideal.exp (e t - μ)) (∑ t ∈ T, Ideal.exp (e t - μ) * v t) := by
  have h : ∀ t, Ideal.exp (e t - μ) = (Real.exp (s t - μ) : EReal) := fun t => by
    rw [he t, ← EReal.coe_sub, Ideal.exp_coe]
  constructor
  · rw [coe_sum]; exact Finset.sum_congr rfl fun t _ => h t
  · exact Finset.sum_congr rfl fun t _ => by rw [h t]

end Cert.Exchange

end
-- ==== Proof.Reads.lean ====
/-
  THE KERNEL'S VALUES AT AN INDEX, over the extended reals: each load, each pure step of the body and each definition of
  Contents.lean, read at one index as plain sums, products, quotients, exponentials and maxima.
-/
module

public import proofs.«01_k».proof.Proof.Contents
public import proofs.«01_k».proof.Proof.Softmax
public import Idealize.ShloMosaic.Lib.Pointwise
public import Idealize.ShloMosaic.Lib.ValueLayout

@[expose] public section

set_option maxRecDepth 16384

noncomputable section

namespace Cert.Exchange

open Cert.KernelIdeal Cert.KernelIdeal.Gen
open Idealize.ShloMosaic

/-! ## The loads at an index -/

section Loads
variable {F : FTy → Type} [FloatOps F]

/-- Batch `b` of `x`, entry by entry. -/
theorem xRow_apply (b : Fin 2) (x : Vec F S2x512x768 .bf16) (i : Fin 512) (e : Fin 768) :
    xRow b x (ix3 (0 : Fin 1) i e) = x (ix3 b i e) := by
  refine congrArg x (funext fun a => Fin.ext ?_)
  match a with
  | ⟨0, _⟩ => rfl
  | ⟨1, _⟩ => show 0 + 1 * i.val = i.val; omega
  | ⟨2, _⟩ => show 0 + 1 * e.val = e.val; omega

/-- All of `Wq`. -/
theorem wqAll_apply (w : Vec F S768x512 .bf16) (e : Fin 768) (f : Fin 512) : wqAll w (ix2 e f) = w (ix2 e f) := by
  refine congrArg w (funext fun a => Fin.ext ?_)
  match a with
  | ⟨0, _⟩ => show 0 + 1 * e.val = e.val; omega
  | ⟨1, _⟩ => show 0 + 1 * f.val = f.val; omega

/-- Batch `b` of the keys. -/
theorem kRow_apply (b : Fin 2) (k : Vec F S2x512x8x64 .bf16) (j : Fin 512) (h : Fin 8) (d : Fin 64) :
    kRow b k (ix4 (0 : Fin 1) j h d) = k (ix4 b j h d) := by
  refine congrArg k (funext fun a => Fin.ext ?_)
  match a with
  | ⟨0, _⟩ => rfl
  | ⟨1, _⟩ => show 0 + 1 * j.val = j.val; omega
  | ⟨2, _⟩ => show 0 + 1 * h.val = h.val; omega
  | ⟨3, _⟩ => show 0 + 1 * d.val = d.val; omega

/-- Batch `b` of the values. -/
theorem vRow_apply (b : Fin 2) (k : Vec F S2x512x8x64 .bf16) (j : Fin 512) (h : Fin 8) (d : Fin 64) :
    vRow b k (ix4 (0 : Fin 1) j h d) = k (ix4 b j h d) := by
  refine congrArg k (funext fun a => Fin.ext ?_)
  match a with
  | ⟨0, _⟩ => rfl
  | ⟨1, _⟩ => show 0 + 1 * j.val = j.val; omega
  | ⟨2, _⟩ => show 0 + 1 * h.val = h.val; omega
  | ⟨3, _⟩ => show 0 + 1 * d.val = d.val; omega

/-- Head `h`'s rows of `Wo`. -/
theorem woRow_apply (h : Fin 8) (w : Vec F S512x768 .bf16) (d : Fin 64) (e : Fin 768) :
    woRow h w (ix2 d e) = w (ix2 (⟨64 * h.val + d.val, by omega⟩ : Fin 512) e) := by
  refine congrArg w (funext fun a => Fin.ext ?_)
  match a with
  | ⟨0, _⟩ => show 64 * h.val + 1 * d.val = 64 * h.val + d.val; omega
  | ⟨1, _⟩ => show 0 + 1 * e.val = e.val; omega

/-- The maxima (`r = 0`) or the sums (`r = 1`) of the accumulator. -/
theorem mlRow_apply (r : Fin 2) (a : Vec F S2x8x2x512 .f32) (b : Fin 2) (h : Fin 8) (i : Fin 512) :
    mlRow r a (ix4 b h (0 : Fin 1) i) = a (ix4 b h r i) := by
  refine congrArg a (funext fun a => Fin.ext ?_)
  match a with
  | ⟨0, _⟩ => show 0 + 1 * b.val = b.val; omega
  | ⟨1, _⟩ => show 0 + 1 * h.val = h.val; omega
  | ⟨2, _⟩ => rfl
  | ⟨3, _⟩ => show 0 + 1 * i.val = i.val; omega

/-- All the accumulated products. -/
theorem oAll_apply (a : Vec F S2x8x512x64 .bf16) (b : Fin 2) (h : Fin 8) (i : Fin 512) (d : Fin 64) :
    oAll a (ix4 b h i d) = a (ix4 b h i d) := by
  refine congrArg a (funext fun a => Fin.ext ?_)
  match a with
  | ⟨0, _⟩ => show 0 + 1 * b.val = b.val; omega
  | ⟨1, _⟩ => show 0 + 1 * h.val = h.val; omega
  | ⟨2, _⟩ => show 0 + 1 * i.val = i.val; omega
  | ⟨3, _⟩ => show 0 + 1 * d.val = d.val; omega

/-- The maxima or the sums that landed in exchange `k`. -/
theorem mlRow'_apply (k : Fin 3) (r : Fin 2) (a : Vec F S2x8x2x512 .f32) (b : Fin 2) (h : Fin 8) (i : Fin 512) :
    mlRow' k r a (ix5 (0 : Fin 1) b h (0 : Fin 1) i) = a (ix4 b h r i) := by
  refine congrArg a (funext fun a => Fin.ext ?_)
  match a with
  | ⟨0, _⟩ => show 0 + 1 * b.val = b.val; omega
  | ⟨1, _⟩ => show 0 + 1 * h.val = h.val; omega
  | ⟨2, _⟩ => rfl
  | ⟨3, _⟩ => show 0 + 1 * i.val = i.val; omega

/-- The products that landed in exchange `k`. -/
theorem oRow'_apply (k : Fin 3) (a : Vec F S2x8x512x64 .bf16) (b : Fin 2) (h : Fin 8) (i : Fin 512) (d : Fin 64) :
    oRow' k a (ix5 (0 : Fin 1) b h i d) = a (ix4 b h i d) := by
  refine congrArg a (funext fun a => Fin.ext ?_)
  match a with
  | ⟨0, _⟩ => show 0 + 1 * b.val = b.val; omega
  | ⟨1, _⟩ => show 0 + 1 * h.val = h.val; omega
  | ⟨2, _⟩ => show 0 + 1 * i.val = i.val; omega
  | ⟨3, _⟩ => show 0 + 1 * d.val = d.val; omega

end Loads

/-! ## The pure steps at an index -/

section Steps

/-- Column `64 h + d` of the 512: head `h`, coordinate `d`. -/
abbrev col (h : Fin 8) (d : Fin 64) : Fin 512 := ⟨64 * h.val + d.val, by omega⟩

/-- The query: `x` times `Wq`. -/
theorem pay4_apply (w : FVec Ideal S768x512 .bf16) (x : FVec Ideal S1x512x768 .bf16) (i : Fin 512) (f : Fin 512) :
    k0_pay4 (F := Ideal) w x (ix2 i f) = ∑ e : Fin 768, x (ix3 (0 : Fin 1) i e) * w (ix2 e f) := by
  pointwise [k0_pay4]

/-- A cast, which changes nothing over the extended reals; so are the next two. -/
theorem pay3_apply (w : FVec Ideal S768x512 .bf16) (i : S768x512.Idx) : k0_pay3 (F := Ideal) w i = w i := by
  pointwise [k0_pay3]

theorem pay5_apply (w : FVec Ideal S1x512x8x64 .bf16) (i : Fin 512) (h : Fin 8) (d : Fin 64) :
    k0_pay5 (F := Ideal) w (ix3 i h d) = w (ix4 (0 : Fin 1) i h d) := by
  pointwise [k0_pay5]

theorem pay6_apply (w : FVec Ideal S1x512x8x64 .bf16) (i : Fin 512) (h : Fin 8) (d : Fin 64) :
    k0_pay6 (F := Ideal) w (ix3 i h d) = w (ix4 (0 : Fin 1) i h d) := by
  pointwise [k0_pay6]

/-- Head `h`'s columns of the query, and its part of the keys or values. -/
theorem qHead_apply (q : FVec Ideal S512x512 .bf16) (h : Fin 8) (i : Fin 512) (d : Fin 64) :
    qHead q h (ix2 i d) = q (ix2 i (col h d)) := by
  pointwise [qHead]

theorem kvHead_apply (q : FVec Ideal S512x8x64 .bf16) (h : Fin 8) (i : Fin 512) (d : Fin 64) :
    kvHead q h (ix2 i d) = q (ix3 i h d) := by
  pointwise [kvHead]

/-- The number the scores are scaled by, `0.125`, and the number a masked score is set to, `−10⁹`. -/
def scale : EReal := Ideal.ofBits .f32 0x3E000000#32
/-- The score of a masked key. -/
def masked : EReal := Ideal.ofBits .f32 0xCE6E6B28#32

/-- A head's scores, its row maxima, its weights, their row sums, and the weighted values. -/
theorem scores_apply (mask : IVec S512x512 1) (q k : FVec Ideal S512x64 .bf16) (i j : Fin 512) :
    scores mask q k (ix2 i j) = Scalar.select (mask (ix2 i j)) ((∑ d : Fin 64, q (ix2 i d) * k (ix2 j d)) * scale) masked := by
  pointwise [scores]
  rfl

theorem rowMax_apply (s : FVec Ideal S512x512 .f32) (i : Fin 512) :
    rowMax s (ix1 i) = Finset.univ.fold max ⊥ fun j : Fin 512 => s (ix2 i j) := by
  pointwise [rowMax]
  rw [show Ideal.ofBits .f32 4286578688#32 = (⊥ : EReal) from by simp [Ideal.ofBits, Ideal.ieee]]

theorem weights_apply (s : FVec Ideal S512x512 .f32) (i j : Fin 512) :
    weights s (ix2 i j) = Ideal.exp (s (ix2 i j) - rowMax s (ix1 i)) := by
  pointwise [weights]

theorem rowSum_apply (s : FVec Ideal S512x512 .f32) (i : Fin 512) : rowSum s (ix1 i) = ∑ j : Fin 512, s (ix2 i j) := by
  pointwise [rowSum]

theorem weighted_apply (p : FVec Ideal S512x512 .f32) (v : FVec Ideal S512x64 .bf16) (i : Fin 512) (d : Fin 64) :
    weighted p v (ix2 i d) = ∑ j : Fin 512, p (ix2 i j) * v (ix2 j d) := by
  pointwise [weighted]

/-- An exchange's new maximum, the two factors that rescale to it, the sums and the products merged. -/
theorem pay128_apply (a : FVec Ideal S2x8x1x512 .f32) (b : FVec Ideal S1x2x8x1x512 .f32) (i : Fin 2) (h : Fin 8) (j : Fin 512) :
    k0_pay128 (F := Ideal) a b (ix3 i h j) = max (a (ix4 i h (0 : Fin 1) j)) (b (ix5 (0 : Fin 1) i h (0 : Fin 1) j)) := by
  pointwise [k0_pay128, k0_pay124, k0_pay126]

theorem pay129_apply (a : FVec Ideal S2x8x1x512 .f32) (b : FVec Ideal S1x2x8x1x512 .f32) (i : Fin 2) (h : Fin 8) (j : Fin 512) :
    k0_pay129 (F := Ideal) a b (ix3 i h j)
      = Ideal.exp (a (ix4 i h (0 : Fin 1) j) - max (a (ix4 i h (0 : Fin 1) j)) (b (ix5 (0 : Fin 1) i h (0 : Fin 1) j))) := by
  pointwise [k0_pay129, k0_pay128, k0_pay124, k0_pay126]

theorem pay130_apply (a : FVec Ideal S2x8x1x512 .f32) (b : FVec Ideal S1x2x8x1x512 .f32) (i : Fin 2) (h : Fin 8) (j : Fin 512) :
    k0_pay130 (F := Ideal) a b (ix3 i h j)
      = Ideal.exp (b (ix5 (0 : Fin 1) i h (0 : Fin 1) j) - max (a (ix4 i h (0 : Fin 1) j)) (b (ix5 (0 : Fin 1) i h (0 : Fin 1) j))) := by
  pointwise [k0_pay130, k0_pay128, k0_pay124, k0_pay126]

theorem pay125_apply (a : FVec Ideal S2x8x1x512 .f32) (i : Fin 2) (h : Fin 8) (j : Fin 512) :
    k0_pay125 (F := Ideal) a (ix3 i h j) = a (ix4 i h (0 : Fin 1) j) := by
  pointwise [k0_pay125]

theorem pay127_apply (a : FVec Ideal S1x2x8x1x512 .f32) (i : Fin 2) (h : Fin 8) (j : Fin 512) :
    k0_pay127 (F := Ideal) a (ix3 i h j) = a (ix5 (0 : Fin 1) i h (0 : Fin 1) j) := by
  pointwise [k0_pay127]

theorem pay131_apply (a : FVec Ideal S2x8x512 .f32) (i : Fin 2) (h : Fin 8) (j : Fin 512) :
    k0_pay131 (F := Ideal) a (ix4 i h (0 : Fin 1) j) = a (ix3 i h j) := by
  pointwise [k0_pay131]

theorem pay132_apply (l l' a b : FVec Ideal S2x8x512 .f32) (i : Fin 2) (h : Fin 8) (j : Fin 512) :
    k0_pay132 (F := Ideal) l l' a b (ix4 i h (0 : Fin 1) j) = a (ix3 i h j) * l (ix3 i h j) + b (ix3 i h j) * l' (ix3 i h j) := by
  pointwise [k0_pay132]

theorem pay133_apply (a b : FVec Ideal S2x8x512 .f32) (o : FVec Ideal S2x8x512x64 .bf16) (o' : FVec Ideal S1x2x8x512x64 .bf16)
    (i : Fin 2) (h : Fin 8) (j : Fin 512) (d : Fin 64) :
    k0_pay133 (F := Ideal) a b o o' (ix4 i h j d) = a (ix3 i h j) * o (ix4 i h j d) + b (ix3 i h j) * o' (ix5 (0 : Fin 1) i h j d) := by
  pointwise [k0_pay133]

/-- The context: products over sums. -/
theorem pay153_apply (o : FVec Ideal S2x8x512x64 .bf16) (l : FVec Ideal S2x8x1x512 .f32) (i : Fin 2) (h : Fin 8) (j : Fin 512) (d : Fin 64) :
    k0_pay153 (F := Ideal) o l (ix4 i h j d) = Ideal.div (o (ix4 i h j d)) (l (ix4 i h (0 : Fin 1) j)) := by
  pointwise [k0_pay153]

/-- The last product, head by head: each payload adds the heads that it is given to what it is given. -/
theorem pay154_apply (o : FVec Ideal S2x8x512x64 .bf16) (l : FVec Ideal S2x8x1x512 .f32) (w0 w1 w2 w3 : FVec Ideal S64x768 .bf16)
    (i : Fin 512) (e : Fin 768) :
    k0_pay154 (F := Ideal) o l w0 w1 w2 w3 (ix2 i e)
      = ∑ d : Fin 64, Ideal.div (o (ix4 (0 : Fin 2) (0 : Fin 8) i d)) (l (ix4 (0 : Fin 2) (0 : Fin 8) (0 : Fin 1) i)) * w0 (ix2 d e)
        + ∑ d : Fin 64, Ideal.div (o (ix4 (0 : Fin 2) (1 : Fin 8) i d)) (l (ix4 (0 : Fin 2) (1 : Fin 8) (0 : Fin 1) i)) * w1 (ix2 d e)
        + ∑ d : Fin 64, Ideal.div (o (ix4 (0 : Fin 2) (2 : Fin 8) i d)) (l (ix4 (0 : Fin 2) (2 : Fin 8) (0 : Fin 1) i)) * w2 (ix2 d e)
        + ∑ d : Fin 64, Ideal.div (o (ix4 (0 : Fin 2) (3 : Fin 8) i d)) (l (ix4 (0 : Fin 2) (3 : Fin 8) (0 : Fin 1) i)) * w3 (ix2 d e) := by
  pointwise [k0_pay154, pay153_apply]

theorem pay155_apply (w : FVec Ideal S64x768 .bf16) (j : S64x768.Idx) : k0_pay155 (F := Ideal) w j = w j := by
  pointwise [k0_pay155]

theorem pay159_apply (w : FVec Ideal S64x768 .bf16) (j : S64x768.Idx) : k0_pay159 (F := Ideal) w j = w j := by
  pointwise [k0_pay159]

theorem pay156_apply (o : FVec Ideal S2x8x512x64 .bf16) (l : FVec Ideal S2x8x1x512 .f32) (i : Fin 512) (d : Fin 64) :
    k0_pay156 (F := Ideal) o l (ix2 i d) = Ideal.div (o (ix4 (0 : Fin 2) (4 : Fin 8) i d)) (l (ix4 (0 : Fin 2) (4 : Fin 8) (0 : Fin 1) i)) := by
  pointwise [k0_pay156, pay153_apply]

theorem pay157_apply (c : FVec Ideal S2x8x512x64 .bf16) (acc : FVec Ideal S512x768 .f32) (w4 : FVec Ideal S64x768 .bf16)
    (c4 : FVec Ideal S512x64 .bf16) (w5 w6 w7 : FVec Ideal S64x768 .bf16) (i : Fin 512) (e : Fin 768) :
    k0_pay157 (F := Ideal) c acc w4 c4 (constant S512x768 .f32 0x00000000#32) w5 w6 w7 (ix3 (0 : Fin 1) i e)
      = acc (ix2 i e) + ∑ d : Fin 64, c4 (ix2 i d) * w4 (ix2 d e)
        + ∑ d : Fin 64, c (ix4 (0 : Fin 2) (5 : Fin 8) i d) * w5 (ix2 d e)
        + ∑ d : Fin 64, c (ix4 (0 : Fin 2) (6 : Fin 8) i d) * w6 (ix2 d e)
        + ∑ d : Fin 64, c (ix4 (0 : Fin 2) (7 : Fin 8) i d) * w7 (ix2 d e) := by
  pointwise [k0_pay157]

theorem pay158_apply (c : FVec Ideal S2x8x512x64 .bf16) (w0 w1 : FVec Ideal S64x768 .bf16) (i : Fin 512) (e : Fin 768) :
    k0_pay158 (F := Ideal) c w0 w1 (ix2 i e)
      = ∑ d : Fin 64, c (ix4 (1 : Fin 2) (0 : Fin 8) i d) * w0 (ix2 d e) + ∑ d : Fin 64, c (ix4 (1 : Fin 2) (1 : Fin 8) i d) * w1 (ix2 d e) := by
  pointwise [k0_pay158]

theorem pay160_apply (c : FVec Ideal S2x8x512x64 .bf16) (acc : FVec Ideal S512x768 .f32) (w2 w3 w4 w5 : FVec Ideal S64x768 .bf16)
    (i : Fin 512) (e : Fin 768) :
    k0_pay160 (F := Ideal) c acc w2 w3 w4 w5 (ix2 i e)
      = acc (ix2 i e) + ∑ d : Fin 64, c (ix4 (1 : Fin 2) (2 : Fin 8) i d) * w2 (ix2 d e)
        + ∑ d : Fin 64, c (ix4 (1 : Fin 2) (3 : Fin 8) i d) * w3 (ix2 d e)
        + ∑ d : Fin 64, c (ix4 (1 : Fin 2) (4 : Fin 8) i d) * w4 (ix2 d e)
        + ∑ d : Fin 64, c (ix4 (1 : Fin 2) (5 : Fin 8) i d) * w5 (ix2 d e) := by
  pointwise [k0_pay160]

theorem pay1_apply (c : FVec Ideal S2x8x512x64 .bf16) (acc : FVec Ideal S512x768 .f32) (w6 w7 : FVec Ideal S64x768 .bf16)
    (i : Fin 512) (e : Fin 768) :
    k0_pay1 (F := Ideal) c acc w6 w7 (ix3 (0 : Fin 1) i e)
      = acc (ix2 i e) + ∑ d : Fin 64, c (ix4 (1 : Fin 2) (6 : Fin 8) i d) * w6 (ix2 d e)
        + ∑ d : Fin 64, c (ix4 (1 : Fin 2) (7 : Fin 8) i d) * w7 (ix2 d e) := by
  pointwise [k0_pay1]

end Steps

/-! ## The definitions of Contents.lean at an index -/

section Contents

/-- The score of query `i` and local key `j` on one device. -/
theorem headScores_apply (mask : IVec S512x512 1) (x : Vec Ideal S2x512x768 .bf16) (wq : Vec Ideal S768x512 .bf16)
    (k : Vec Ideal S2x512x8x64 .bf16) (b : Fin 2) (h : Fin 8) (i j : Fin 512) :
    headScores mask x wq k b h (ix2 i j)
      = Scalar.select (mask (ix2 i j))
          ((∑ d : Fin 64, (∑ e : Fin 768, x (ix3 b i e) * wq (ix2 e (col h d))) * k (ix4 b j h d)) * scale) masked := by
  unfold headScores
  rw [scores_apply]
  simp only [qHead_apply, kvHead_apply, pay4_apply, pay3_apply, pay5_apply, xRow_apply, wqAll_apply, kRow_apply]

/-- The local products. -/
theorem locO_apply (mask : IVec S512x512 1) (x : Vec Ideal S2x512x768 .bf16) (wq : Vec Ideal S768x512 .bf16)
    (k v : Vec Ideal S2x512x8x64 .bf16) (b : Fin 2) (h : Fin 8) (i : Fin 512) (d : Fin 64) :
    locO mask x wq k v (ix4 b h i d)
      = ∑ j : Fin 512, Ideal.exp (headScores mask x wq k b h (ix2 i j) - rowMax (headScores mask x wq k b h) (ix1 i)) * v (ix4 b j h d) := by
  show shapeCast S1x1x512x64 (weighted (weights (headScores mask x wq k b h)) (kvHead (k0_pay6 (vRow b v)) h)) shapeCasts_S512x64_S1x1x512x64
    (ix4 (0 : Fin 1) (0 : Fin 1) i d) = _
  pointwise [weighted_apply, weights_apply, kvHead_apply, pay6_apply, vRow_apply]

/-- The local maxima. -/
theorem locML_max (mask : IVec S512x512 1) (x : Vec Ideal S2x512x768 .bf16) (wq : Vec Ideal S768x512 .bf16)
    (k : Vec Ideal S2x512x8x64 .bf16) (b : Fin 2) (h : Fin 8) (i : Fin 512) :
    locML mask x wq k (ix4 b h (0 : Fin 2) i) = rowMax (headScores mask x wq k b h) (ix1 i) := by
  show shapeCast S1x1x1x512 (rowMax (headScores mask x wq k b h)) shapeCasts_S512_S1x1x1x512 (ix4 (0 : Fin 1) (0 : Fin 1) (0 : Fin 1) i) = _
  pointwise

/-- The local sums. -/
theorem locML_sum (mask : IVec S512x512 1) (x : Vec Ideal S2x512x768 .bf16) (wq : Vec Ideal S768x512 .bf16)
    (k : Vec Ideal S2x512x8x64 .bf16) (b : Fin 2) (h : Fin 8) (i : Fin 512) :
    locML mask x wq k (ix4 b h (1 : Fin 2) i)
      = ∑ j : Fin 512, Ideal.exp (headScores mask x wq k b h (ix2 i j) - rowMax (headScores mask x wq k b h) (ix1 i)) := by
  show shapeCast S1x1x1x512 (rowSum (weights (headScores mask x wq k b h))) shapeCasts_S512_S1x1x1x512 (ix4 (0 : Fin 1) (0 : Fin 1) (0 : Fin 1) i) = _
  pointwise [rowSum_apply, weights_apply]

/-- The maxima after an exchange. -/
theorem stepML_max (k : Fin 3) (a b : Vec Ideal S2x8x2x512 .f32) (n : Fin 2) (h : Fin 8) (i : Fin 512) :
    stepML k a b (ix4 n h (0 : Fin 2) i) = max (a (ix4 n h (0 : Fin 2) i)) (b (ix4 n h (0 : Fin 2) i)) := by
  show k0_pay131 (k0_pay128 (mlRow 0 a) (mlRow' k 0 b)) (ix4 n h (0 : Fin 1) i) = _
  rw [pay131_apply, pay128_apply, mlRow_apply, mlRow'_apply]

/-- The sums after an exchange. -/
theorem stepML_sum (k : Fin 3) (a b : Vec Ideal S2x8x2x512 .f32) (n : Fin 2) (h : Fin 8) (i : Fin 512) :
    stepML k a b (ix4 n h (1 : Fin 2) i)
      = Ideal.exp (a (ix4 n h (0 : Fin 2) i) - max (a (ix4 n h (0 : Fin 2) i)) (b (ix4 n h (0 : Fin 2) i))) * a (ix4 n h (1 : Fin 2) i)
        + Ideal.exp (b (ix4 n h (0 : Fin 2) i) - max (a (ix4 n h (0 : Fin 2) i)) (b (ix4 n h (0 : Fin 2) i))) * b (ix4 n h (1 : Fin 2) i) := by
  show k0_pay132 (k0_pay125 (mlRow 1 a)) (k0_pay127 (mlRow' k 1 b)) (k0_pay129 (mlRow 0 a) (mlRow' k 0 b)) (k0_pay130 (mlRow 0 a) (mlRow' k 0 b))
    (ix4 n h (0 : Fin 1) i) = _
  rw [pay132_apply, pay129_apply, pay130_apply, pay125_apply, pay127_apply]
  simp only [mlRow_apply, mlRow'_apply]

/-- The products after an exchange. -/
theorem stepO_apply (k : Fin 3) (a b : Vec Ideal S2x8x2x512 .f32) (o r : Vec Ideal S2x8x512x64 .bf16) (n : Fin 2) (h : Fin 8)
    (i : Fin 512) (d : Fin 64) :
    stepO k a b o r (ix4 n h i d)
      = Ideal.exp (a (ix4 n h (0 : Fin 2) i) - max (a (ix4 n h (0 : Fin 2) i)) (b (ix4 n h (0 : Fin 2) i))) * o (ix4 n h i d)
        + Ideal.exp (b (ix4 n h (0 : Fin 2) i) - max (a (ix4 n h (0 : Fin 2) i)) (b (ix4 n h (0 : Fin 2) i))) * r (ix4 n h i d) := by
  unfold stepO
  rw [pay133_apply, pay129_apply, pay130_apply, oAll_apply, oRow'_apply]
  simp only [mlRow_apply, mlRow'_apply]

/-- What one head of batch row `b` adds to the result at `(i, e)`. -/
def part (o : Vec Ideal S2x8x512x64 .bf16) (a : Vec Ideal S2x8x2x512 .f32) (w : Vec Ideal S512x768 .bf16) (b : Fin 2) (i : Fin 512)
    (e : Fin 768) (h : Fin 8) : EReal :=
  ∑ d : Fin 64, Ideal.div (o (ix4 b h i d)) (a (ix4 b h (1 : Fin 2) i)) * w (ix2 (col h d) e)

/-- The first batch of the result: the sum over heads and columns of the context times `Wo`; then the second. -/
theorem out0_apply (o : Vec Ideal S2x8x512x64 .bf16) (a : Vec Ideal S2x8x2x512 .f32) (w : Vec Ideal S512x768 .bf16) (i : Fin 512)
    (e : Fin 768) : out0 o a w (ix3 (0 : Fin 1) i e) = ∑ h : Fin 8, part o a w 0 i e h := by
  unfold out0
  rw [pay157_apply, pay154_apply]
  simp only [pay153_apply, pay155_apply, pay156_apply, oAll_apply, mlRow_apply, woRow_apply, part, Fin.sum_univ_eight]

theorem out1_apply (o : Vec Ideal S2x8x512x64 .bf16) (a : Vec Ideal S2x8x2x512 .f32) (w : Vec Ideal S512x768 .bf16) (i : Fin 512)
    (e : Fin 768) : out1 o a w (ix3 (0 : Fin 1) i e) = ∑ h : Fin 8, part o a w 1 i e h := by
  unfold out1
  rw [pay1_apply, pay160_apply, pay158_apply]
  simp only [pay153_apply, pay159_apply, oAll_apply, mlRow_apply, woRow_apply, part, Fin.sum_univ_eight]

/-- What device `c` writes, at an index. -/
theorem outV_apply (A : Args Ideal) (c : Dev nD) (b : Fin 2) (i : Fin 512) (e : Fin 768) :
    outV A c (ix3 b i e) = ∑ h : Fin 8, part (accO3 A c) (accML3 A c) (A.wo c) b i e h := by
  match b with
  | ⟨0, _⟩ => exact out0_apply _ _ _ i e
  | ⟨1, _⟩ => exact out1_apply _ _ _ i e

end Contents

end Cert.Exchange

end
-- ==== Proof.Group.lean ====
/-
  THE EXCHANGES, AS SUMS OVER GROUPS OF DEVICES. Before exchange `k` device `c` holds the maxima, sums and products of the
  keys of its group `grp k c`, the devices that differ from `c` in the bits below `k`. An exchange joins the groups of the
  two partners, so after three of them every device holds the sums over the keys of all eight.
-/
module

public import proofs.«01_k».proof.Proof.Reads

@[expose] public section

set_option maxRecDepth 16384

noncomputable section

namespace Cert.Exchange

open Cert.KernelIdeal Cert.KernelIdeal.Gen
open Idealize.ShloMosaic

/-- A key: the device that holds it and its place there. -/
abbrev Key := Dev nD × Fin 512

variable (A : Args Ideal)

/-- The score of query `i` and key `t` in batch row `b` and head `h`, as the device that holds the key computes it. -/
def score (b : Fin 2) (h : Fin 8) (i : Fin 512) (t : Key) : EReal :=
  headScores (k0_pay2 t.1) (A.x t.1) (A.wq t.1) (A.k t.1) b h (ix2 i t.2)

/-- Coordinate `d` of the value at key `t`. -/
def value (b : Fin 2) (h : Fin 8) (d : Fin 64) (t : Key) : EReal := A.v t.1 (ix4 b t.2 h d)

/-- The group of devices whose keys device `c` has summed before exchange `k` (after the last one at `k = 3`). -/
def grp : ℕ → Dev nD → Finset (Dev nD)
  | 0, c => {c}
  | k + 1, c => grp k c ∪ grp k (prt (Fin.ofNat 3 k) c)

/-- A device's group and its partner's, before exchange `k`, have no device in common. -/
theorem grp_disjoint : ∀ (k : Fin 3) (c : Dev nD), Disjoint (grp k.val c) (grp k.val (prt k c)) := by decide

/-- After three exchanges the group is everyone. -/
theorem grp_all : ∀ c : Dev nD, grp 3 c = Finset.univ := by decide

/-- The keys of the group. -/
def keys (k : ℕ) (c : Dev nD) : Finset Key := grp k c ×ˢ Finset.univ

/-- An exchange joins the two groups' keys, -/
theorem keys_succ (k : Fin 3) (c : Dev nD) : keys (k.val + 1) c = keys k.val c ∪ keys k.val (prt k c) := by
  unfold keys
  rw [← Finset.union_product]
  congr 1
  show grp k.val c ∪ grp k.val (prt (Fin.ofNat 3 k.val) c) = _
  congr 3
  exact Fin.ext (Nat.mod_eq_of_lt k.isLt)

/-- which have no key in common. -/
theorem keys_disjoint (k : Fin 3) (c : Dev nD) : Disjoint (keys k.val c) (keys k.val (prt k c)) :=
  Finset.disjoint_product.2 (.inl (grp_disjoint k c))

/-- What device `c` holds before exchange `k`: real maxima, and the sums and products of its group's keys at that level. -/
def Holds (s : Fin 2 → Fin 8 → Fin 512 → Key → ℝ) (k : ℕ) (c : Dev nD) (ml : Vec Ideal S2x8x2x512 .f32) (o : Vec Ideal S2x8x512x64 .bf16) : Prop :=
  ∀ b h i, ∃ μ : ℝ, ml (ix4 b h (0 : Fin 2) i) = (μ : EReal)
    ∧ ∀ d, Acc (keys k c) (s b h i) (value A b h d) μ (ml (ix4 b h (1 : Fin 2) i)) (o (ix4 b h i d))

variable {A}
variable {s : Fin 2 → Fin 8 → Fin 512 → Key → ℝ}

/-- The local phase leaves each device with its own keys. -/
theorem holds_local (hs : ∀ b h i t, score A b h i t = (s b h i t : EReal)) (c : Dev nD) : Holds A s 0 c (accML0 A c) (accO0 A c) := by
  intro b h i
  obtain ⟨μ, hμ⟩ : ∃ μ : ℝ, rowMax (headScores (k0_pay2 c) (A.x c) (A.wq c) (A.k c) b h) (ix1 i) = (μ : EReal) := by
    rw [rowMax_apply]
    exact fold_max_real _ ⟨0, Finset.mem_univ _⟩ _ fun j _ => ⟨_, hs b h i (c, j)⟩
  have hk : keys 0 c = Finset.univ.map ⟨fun j : Fin 512 => ((c, j) : Key), fun _ _ e => (Prod.mk.inj e).2⟩ := by
    ext ⟨c', j⟩
    simp only [keys, grp, Finset.mem_product, Finset.mem_singleton, Finset.mem_univ, and_true, Finset.mem_map, true_and]
    exact ⟨fun e => ⟨j, by rw [e]; rfl⟩, fun ⟨_, e⟩ => (Prod.mk.inj e).1.symm⟩
  refine ⟨μ, (locML_max _ _ _ _ b h i).trans hμ, fun d => ?_⟩
  have key := Acc.of (keys 0 c) (s b h i) (value A b h d) (score A b h i) (hs b h i) μ
  rw [hk, Finset.sum_map, Finset.sum_map] at key
  rw [hk]
  unfold accML0 accO0
  rw [locML_sum, locO_apply, hμ]
  exact key

/-- An exchange joins the keys of the two partners. -/
theorem holds_step (k : Fin 3) (c : Dev nD) {ml ml' : Vec Ideal S2x8x2x512 .f32} {o o' : Vec Ideal S2x8x512x64 .bf16}
    (h : Holds A s k.val c ml o) (h' : Holds A s k.val (prt k c) ml' o') :
    Holds A s (k.val + 1) c (stepML k ml ml') (stepO k ml ml' o o') := by
  classical
  intro b n i
  obtain ⟨μ, e, a⟩ := h b n i
  obtain ⟨μ', e', a'⟩ := h' b n i
  have hm : max (ml (ix4 b n (0 : Fin 2) i)) (ml' (ix4 b n (0 : Fin 2) i)) = ((max μ μ' : ℝ) : EReal) := by
    rw [e, e']; exact (EReal.coe_strictMono.monotone.map_max).symm
  refine ⟨max μ μ', (stepML_max k ml ml' b n i).trans hm, fun d => ?_⟩
  rw [stepML_sum, stepO_apply, hm, e, e', keys_succ]
  exact (a d).combine (a' d) (keys_disjoint k c) (max μ μ')

/-- After the three exchanges every device holds the sums over all keys. -/
theorem holds_all (hs : ∀ b h i t, score A b h i t = (s b h i t : EReal)) (c : Dev nD) : Holds A s 3 c (accML3 A c) (accO3 A c) := by
  have h0 : ∀ c, Holds A s 0 c (accML0 A c) (accO0 A c) := holds_local hs
  have h1 : ∀ c, Holds A s 1 c (accML1 A c) (accO1 A c) := fun c => holds_step 0 c (h0 c) (h0 _)
  have h2 : ∀ c, Holds A s 2 c (accML2 A c) (accO2 A c) := fun c => holds_step 1 c (h1 c) (h1 _)
  exact holds_step 2 c (h2 c) (h2 _)

/-- So what device `c` writes is, for each head, the values under the weights of a softmax over all keys (at any level
    `ν`, which may differ from row to row), multiplied with the head's rows of `Wo`. -/
theorem outV_eq (hs : ∀ b h i t, score A b h i t = (s b h i t : EReal)) (ν : Fin 2 → Fin 8 → Fin 512 → ℝ) (c : Dev nD)
    (b : Fin 2) (i : Fin 512) (e : Fin 768) :
    outV A c (ix3 b i e) = ∑ h : Fin 8, ∑ d : Fin 64,
      (∑ t : Key, value A b h d t * Ideal.div (Real.exp (s b h i t - ν b h i) : EReal) ((∑ u : Key, Real.exp (s b h i u - ν b h i) : ℝ) : EReal))
        * A.wo c (ix2 (col h d) e) := by
  rw [outV_apply]
  refine Finset.sum_congr rfl fun h _ => ?_
  unfold part
  refine Finset.sum_congr rfl fun d _ => ?_
  obtain ⟨μ, -, a⟩ := holds_all hs c b h i
  have hall : keys 3 c = Finset.univ := by unfold keys; rw [grp_all, Finset.univ_product_univ]
  have hd := (a d).div (hall ▸ Finset.univ_nonempty) (ν b h i)
  rw [hd, hall]

end Cert.Exchange

end
-- ==== Proof.RefRead.lean ====
/-
  THE REFERENCE'S VALUE AT AN INDEX, over the extended reals: its mask, its scores, their row maximum, its weights and its
  result, as plain sums, products, quotients, exponentials and maxima.
-/
module

public import proofs.«01_k».proof.Proof.Gen.ReferenceIdeal.Run
public import proofs.«01_k».proof.Proof.Gen.ReferenceIdeal.Read
public import proofs.«01_k».proof.Proof.Softmax
public import Idealize.ShloMosaic.Lib.Pointwise

@[expose] public section

set_option maxRecDepth 16384

noncomputable section

namespace Cert.Exchange.Ref

open Cert.ReferenceIdeal Cert.ReferenceIdeal.Gen Cert.ReferenceIdeal.Read
open Idealize.ShloMosaic

/-- Whether query `i` may see key `j`, on machine words: within 128 of it, or one of the two among the first 32. -/
def maskBit (i j : BitVec 32) : BitVec 1 :=
  IntOp.ori (IntOp.cmpi .sle (IntOp.absi (IntOp.subi i j)) 128#32) (IntOp.ori (IntOp.cmpi .slt j 32#32) (IntOp.cmpi .slt i 32#32))

/-- The reference's mask. -/
theorem mask_apply (i : Fin 512) (j : Fin 4096) :
    val_main_v20 (F := Ideal) (ix2 i j) = maskBit (BitVec.ofNat 32 i.val) (BitVec.ofNat 32 j.val) := by
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_c,
    val_main_c_0, val_main_c_1, maskBit]

/-- Every query sees the first key. -/
theorem mask_first (i : BitVec 32) : maskBit i 0#32 = 1#1 := by
  unfold maskBit
  have h : IntOp.cmpi .slt 0#32 32#32 = 1#1 := by decide
  rw [h]
  generalize IntOp.cmpi .slt i 32#32 = a
  generalize IntOp.cmpi .sle (IntOp.absi (IntOp.subi i 0#32)) 128#32 = b
  revert a b
  decide

/-- The projected queries. -/
theorem query_apply (x : FVec Ideal S2x512x768 .bf16) (wq : FVec Ideal S768x512 .bf16) (b : Fin 2) (i : Fin 512) (h : Fin 8) (d : Fin 64) :
    val_main_v2 (F := Ideal) x wq (ix4 b i h d) = ∑ e : Fin 768, x (ix3 b i e) * wq (ix2 e (⟨64 * h.val + d.val, by omega⟩ : Fin 512)) := by
  pointwise [val_main_v2, val_main_v1, val_main_v0]
  simp only [Nat.mul_comm]

/-- The scaled and masked scores. -/
theorem score_apply (x : FVec Ideal S2x512x768 .bf16) (wq : FVec Ideal S768x512 .bf16) (k : FVec Ideal S2x4096x8x64 .bf16) (b : Fin 2)
    (h : Fin 8) (i : Fin 512) (j : Fin 4096) :
    val_main_v27 (F := Ideal) x wq k (ix4 b h i j)
      = Scalar.select (maskBit (BitVec.ofNat 32 i.val) (BitVec.ofNat 32 j.val))
          ((∑ d : Fin 64, (∑ e : Fin 768, x (ix3 b i e) * wq (ix2 e (⟨64 * h.val + d.val, by omega⟩ : Fin 512))) * k (ix4 b j h d))
            * Ideal.ofBits .f32 0x3E000000#32)
          (Ideal.ofBits .f32 0xCE6E6B28#32) := by
  pointwise [val_main_v27, val_main_v26, val_main_v25, val_main_v24, val_main_v23, val_main_v22, val_main_v21, val_main_cst, val_main_cst_2,
    val_main_call0_v0, val_main_call0_v1, val_main_call0_v2, mask_apply, query_apply]
  rfl

/-- Their row maximum. -/
theorem max_apply (x : FVec Ideal S2x512x768 .bf16) (wq : FVec Ideal S768x512 .bf16) (k : FVec Ideal S2x4096x8x64 .bf16) (b : Fin 2)
    (h : Fin 8) (i : Fin 512) :
    val_main_v28 (F := Ideal) x wq k (ix3 b h i) = Finset.univ.fold max ⊥ fun j : Fin 4096 => val_main_v27 (F := Ideal) x wq k (ix4 b h i j) := by
  pointwise [val_main_v28, val_main_cst_3]
  rw [show Ideal.ofBits .f32 4286578688#32 = (⊥ : EReal) from by simp [Ideal.ofBits, Ideal.ieee]]

/-- Every row keeps at least one key. -/
theorem keep_apply (i : Fin 512) : val_main_v33 (F := Ideal) (ix1 i) = 1#1 := by
  pointwise [val_main_v33, val_main_c_4]
  rw [← Finset.insert_erase (Finset.mem_univ (0 : Fin 4096)), Finset.fold_insert (Finset.notMem_erase _ _), mask_apply]
  rw [show maskBit (BitVec.ofNat 32 i.val) (BitVec.ofNat 32 (0 : Fin 4096).val) = 1#1 from mask_first _]
  generalize Finset.fold IntOp.ori _ _ _ = a
  revert a
  decide

/-- The same at any index. -/
theorem keep_all (i : S512.Idx) : val_main_v33 (F := Ideal) i = 1#1 := by
  have h := keep_apply (i 0)
  rwa [show (ix1 (i 0) : S512.Idx) = i from funext fun a => by match a with | ⟨0, _⟩ => rfl] at h

/-- The exponentials of the scores less their row's maximum. -/
theorem exp_apply (x : FVec Ideal S2x512x768 .bf16) (wq : FVec Ideal S768x512 .bf16) (k : FVec Ideal S2x4096x8x64 .bf16) (b : Fin 2)
    (h : Fin 8) (i : Fin 512) (j : Fin 4096) :
    val_main_v32 (F := Ideal) x wq k (ix4 b h i j)
      = Ideal.exp (val_main_v27 (F := Ideal) x wq k (ix4 b h i j) - val_main_v28 (F := Ideal) x wq k (ix3 b h i)) := by
  pointwise [val_main_v32, val_main_v31, val_main_v30, val_main_v29]

/-- Their row sum. -/
theorem sum_apply (x : FVec Ideal S2x512x768 .bf16) (wq : FVec Ideal S768x512 .bf16) (k : FVec Ideal S2x4096x8x64 .bf16) (b : Fin 2)
    (h : Fin 8) (i : Fin 512) :
    val_main_v35 (F := Ideal) x wq k (ix3 b h i) = ∑ j : Fin 4096, val_main_v32 (F := Ideal) x wq k (ix4 b h i j) := by
  pointwise [val_main_v35, val_main_cst_5]

/-- A choice whose condition holds. -/
theorem select_one {α : Type} (a b : α) : Scalar.select 1#1 a b = a := if_pos rfl

/-- The weights: no row is empty, so each is the exponential divided by the row sum. -/
theorem weight_apply (x : FVec Ideal S2x512x768 .bf16) (wq : FVec Ideal S768x512 .bf16) (k : FVec Ideal S2x4096x8x64 .bf16) (b : Fin 2)
    (h : Fin 8) (i : Fin 512) (j : Fin 4096) :
    val_main_v41 (F := Ideal) x wq k (ix4 b h i j)
      = Ideal.div (val_main_v32 (F := Ideal) x wq k (ix4 b h i j)) (val_main_v35 (F := Ideal) x wq k (ix3 b h i)) := by
  rw [val_main_v41_apply, val_main_call2_v1_apply, val_main_v40_apply, keep_all, select_one, val_main_v39_apply,
    val_main_v38_apply, val_main_v37_apply, val_main_call1_v1_apply, val_main_v34_apply, keep_all, select_one,
    val_main_v36_apply, Ideal.hostDivf_def]
  congr 2
  funext a
  match a with
  | ⟨0, _⟩ => rfl
  | ⟨1, _⟩ => rfl
  | ⟨2, _⟩ => rfl

/-- The result. -/
theorem result_apply (x : FVec Ideal S2x512x768 .bf16) (wq : FVec Ideal S768x512 .bf16) (k v : FVec Ideal S2x4096x8x64 .bf16)
    (wo : FVec Ideal S512x768 .bf16) (b : Fin 2) (i : Fin 512) (e : Fin 768) :
    val_main_v47 (F := Ideal) x wq k v wo (ix3 b i e)
      = ∑ f : Fin 512, (∑ j : Fin 4096, v (ix4 b j (⟨f.val / 64, by omega⟩ : Fin 8) (⟨f.val % 64, by omega⟩ : Fin 64))
          * val_main_v41 (F := Ideal) x wq k (ix4 b (⟨f.val / 64, by omega⟩ : Fin 8) i j)) * wo (ix2 f e) := by
  pointwise [val_main_v47, val_main_v46, val_main_v45, val_main_v44, val_main_v43, val_main_v42]

/-- The sum over the 512 columns, head by head. -/
theorem sum_col (g : Fin 512 → EReal) : ∑ f : Fin 512, g f = ∑ h : Fin 8, ∑ d : Fin 64, g ⟨64 * h.val + d.val, by omega⟩ := by
  rw [← Equiv.sum_comp (finProdFinEquiv (m := 8) (n := 64)) (fun f : Fin (8 * 64) => g f), Fintype.sum_prod_type]
  refine Finset.sum_congr rfl fun h _ => Finset.sum_congr rfl fun d _ => congrArg g (Fin.ext ?_)
  show d.val + 64 * h.val = 64 * h.val + d.val
  omega

/-- The result, head by head. -/
theorem result_heads (x : FVec Ideal S2x512x768 .bf16) (wq : FVec Ideal S768x512 .bf16) (k v : FVec Ideal S2x4096x8x64 .bf16)
    (wo : FVec Ideal S512x768 .bf16) (b : Fin 2) (i : Fin 512) (e : Fin 768) :
    val_main_v47 (F := Ideal) x wq k v wo (ix3 b i e)
      = ∑ h : Fin 8, ∑ d : Fin 64, (∑ j : Fin 4096, v (ix4 b j h d) * val_main_v41 (F := Ideal) x wq k (ix4 b h i j))
          * wo (ix2 (⟨64 * h.val + d.val, by omega⟩ : Fin 512) e) := by
  rw [result_apply, sum_col]
  refine Finset.sum_congr rfl fun h _ => Finset.sum_congr rfl fun d _ => ?_
  have h1 : ∀ p, (⟨(64 * h.val + d.val) / 64, p⟩ : Fin 8) = h := fun p => Fin.ext (by show (64 * h.val + d.val) / 64 = h.val; omega)
  have h2 : ∀ p, (⟨(64 * h.val + d.val) % 64, p⟩ : Fin 64) = d := fun p => Fin.ext (by show (64 * h.val + d.val) % 64 = d.val; omega)
  simp only [h1, h2]

end Cert.Exchange.Ref

end
-- ==== Proof.Value.lean ====
/-
  THE KERNEL'S RESULT IS THE REFERENCE'S. Given that the eight devices hold copies of `x`, `Wq` and `Wo` and the eight
  blocks of the keys and values, and that every score is a real number: the kernel's keys, counted device by device, are
  the reference's keys, its scores are the reference's scores, and so its result is the reference's result.
-/
module

public import proofs.«01_k».proof.Proof.Group
public import proofs.«01_k».proof.Proof.RefRead
public import Idealize.ShloMosaic.Lib.Layout

@[expose] public section

set_option maxRecDepth 16384

noncomputable section

namespace Cert.Exchange

open Cert.KernelIdeal Cert.KernelIdeal.Gen
open Cert.ReferenceIdeal.Read
open Idealize.ShloMosaic

/-- A key's place among all 4096: device `c`'s key `j` is key `512 c + j`. -/
def place : Key ≃ Fin 4096 := finProdFinEquiv (m := 8) (n := 512)

/-- The place, spelled out. -/
theorem place_val (t : Key) : (place t).val = 512 * t.1.val + t.2.val := Nat.add_comm _ _

/-- The kernel's mask on device `c` is the reference's at the keys' places. -/
theorem mask_eq (c : Dev nD) (i j : Fin 512) :
    k0_pay2 c (ix2 i j) = Ref.maskBit (BitVec.ofNat 32 i.val) (BitVec.ofNat 32 (place (c, j)).val) := by
  pointwise [k0_pay2]
  have hw : IntOp.addi (BitVec.ofNat 32 j.val) (Scalar.muli (Scalar.remsi (Scalar.divsi c.word 1#32) 8#32) 512#32)
      = BitVec.ofNat 32 (place (c, j)).val := by
    rw [place_val, show Scalar.muli (Scalar.remsi (Scalar.divsi c.word 1#32) 8#32) 512#32 = BitVec.ofNat 32 (512 * c.val) from by
      revert c; decide]
    show BitVec.ofNat 32 j.val + BitVec.ofNat 32 (512 * c.val) = _
    rw [← BitVec.ofNat_add, Nat.add_comm]
  rw [hw]
  unfold Ref.maskBit
  generalize IntOp.cmpi .sle _ _ = p
  generalize IntOp.cmpi .slt _ _ = q
  generalize IntOp.cmpi .slt _ _ = r
  revert p q r
  decide

/-- The scale and the masked score are real numbers. -/
theorem scale_real : ∃ r : ℝ, scale = (r : EReal) := ⟨1 / 8, by
  unfold scale
  simp [Ideal.ofBits, Ideal.ieee, -EReal.coe_mul]
  norm_num⟩
theorem masked_real : ∃ r : ℝ, masked = (r : EReal) := ⟨-1000000000, by
  unfold masked
  simp [Ideal.ofBits, Ideal.ieee, -EReal.coe_mul]
  norm_num⟩

/-- Block `c` of an array of keys, at an index. -/
theorem block_key (K : FVec Ideal Cert.ReferenceIdeal.S2x4096x8x64 .bf16) (b : Fin 2) (h : Fin 8) (d : Fin 64) (t : Key) :
    (Layout.block ⟨4, ![2, 512, 8, 64]⟩ ⟨4, ![2, 4096, 8, 64]⟩ 1 8 t.1 K : FVec Ideal S2x512x8x64 .bf16) (ix4 b t.2 h d) = K (ix4 b (place t) h d) := by
  refine congrArg K (funext fun a => Fin.ext ?_)
  match a with
  | ⟨0, _⟩ => rfl
  | ⟨1, _⟩ =>
    show t.1.val * 512 + t.2.val = (place t).val
    rw [place_val, Nat.mul_comm]
  | ⟨2, _⟩ => rfl
  | ⟨3, _⟩ => rfl

variable (A : Args Ideal) (x : FVec Ideal S2x512x768 .bf16) (wq : FVec Ideal S768x512 .bf16)
  (K V : FVec Ideal Cert.ReferenceIdeal.S2x4096x8x64 .bf16) (wo : FVec Ideal S512x768 .bf16)

/-- The devices hold their parts of the reference's arguments. -/
structure Held : Prop where
  x : ∀ c, A.x c = x
  wq : ∀ c, A.wq c = wq
  k : ∀ c, A.k c = Layout.block ⟨4, ![2, 512, 8, 64]⟩ ⟨4, ![2, 4096, 8, 64]⟩ 1 8 c K
  v : ∀ c, A.v c = Layout.block ⟨4, ![2, 512, 8, 64]⟩ ⟨4, ![2, 4096, 8, 64]⟩ 1 8 c V
  wo : ∀ c, A.wo c = wo

/-- The operands of the scores are real on every device. -/
structure Finite : Prop where
  x : ∀ c i, ∃ r : ℝ, A.x c i = (r : EReal)
  wq : ∀ c i, ∃ r : ℝ, A.wq c i = (r : EReal)
  k : ∀ c i, ∃ r : ℝ, A.k c i = (r : EReal)

variable {A x wq K V wo}

/-- The kernel's scores are the reference's. -/
theorem score_eq (H : Held A x wq K V wo) (b : Fin 2) (h : Fin 8) (i : Fin 512) (t : Key) :
    score A b h i t = val_main_v27 (F := Ideal) x wq K (ix4 b h i (place t)) := by
  unfold score
  rw [headScores_apply, Ref.score_apply, H.x, H.wq, H.k, mask_eq]
  simp only [block_key]
  rfl

/-- They are real numbers. -/
theorem score_real (R : Finite A) (b : Fin 2) (h : Fin 8) (i : Fin 512) (t : Key) : ∃ r : ℝ, score A b h i t = (r : EReal) := by
  unfold score
  rw [headScores_apply]
  unfold Scalar.select
  split
  · exact real_mul (real_sum _ _ fun d => real_mul (real_sum _ _ fun e => real_mul (R.x _ _) (R.wq _ _)) (R.k _ _)) scale_real
  · exact masked_real

/-- The values are the reference's. -/
theorem value_eq (H : Held A x wq K V wo) (b : Fin 2) (h : Fin 8) (d : Fin 64) (t : Key) : value A b h d t = V (ix4 b (place t) h d) := by
  unfold value
  rw [H.v]
  exact block_key V b h d t

/-- What every device writes is the reference's result. -/
theorem outV_ref (H : Held A x wq K V wo) (R : Finite A) (c : Dev nD) : outV A c = val_main_v47 (F := Ideal) x wq K V wo := by
  choose s hs using fun b h i t => score_real R b h i t
  have hv : ∀ b h i t, val_main_v27 (F := Ideal) x wq K (ix4 b h i (place t)) = (s b h i t : EReal) := fun b h i t =>
    (score_eq H b h i t).symm.trans (hs b h i t)
  have hν : ∀ b h i, ∃ r : ℝ, val_main_v28 (F := Ideal) x wq K (ix3 b h i) = (r : EReal) := fun b h i => by
    rw [Ref.max_apply]
    exact fold_max_real _ ⟨0, Finset.mem_univ _⟩ _ fun j _ => ⟨s b h i (place.symm j), by rw [← hv, Equiv.apply_symm_apply]⟩
  choose ν hν using hν
  have he : ∀ b h i t, val_main_v32 (F := Ideal) x wq K (ix4 b h i (place t)) = (Real.exp (s b h i t - ν b h i) : EReal) := fun b h i t => by
    rw [Ref.exp_apply, hv, hν, ← EReal.coe_sub, Ideal.exp_coe]
  have hsum : ∀ b h i, val_main_v35 (F := Ideal) x wq K (ix3 b h i) = ((∑ u : Key, Real.exp (s b h i u - ν b h i) : ℝ) : EReal) := fun b h i => by
    rw [Ref.sum_apply, ← Equiv.sum_comp place, coe_sum]
    exact Finset.sum_congr rfl fun t _ => he b h i t
  have key : ∀ (b : Fin 2) (i : Fin 512) (e : Fin 768), outV A c (ix3 b i e) = val_main_v47 (F := Ideal) x wq K V wo (ix3 b i e) := fun b i e => by
    rw [outV_eq hs ν c b i e, Ref.result_heads]
    refine Finset.sum_congr rfl fun h _ => Finset.sum_congr rfl fun d _ => ?_
    rw [H.wo, ← Equiv.sum_comp place]
    refine congrArg (· * wo (ix2 (col h d) e)) (Finset.sum_congr rfl fun t _ => ?_)
    rw [value_eq H, Ref.weight_apply, he, hsum]
  funext y
  have := key (y 0) (y 1) (y 2)
  rwa [show (ix3 (y 0) (y 1) (y 2) : S2x512x768.Idx) = y from funext fun a => by
    match a with
    | ⟨0, _⟩ => rfl
    | ⟨1, _⟩ => rfl
    | ⟨2, _⟩ => rfl] at this

end Cert.Exchange

end
-- ==== Proof.Finite.lean ====
/-
  WHAT THE PRECONDITION SAYS: every element of the operand `x`, of `Wq` and of a device's keys is a real number.
-/
module

public import proofs.«01_k».proof.Proof.Gen.Pre_finite_scores_KernelIdeal
public import Idealize.ShloMosaic.Lib.Pointwise
public import Idealize.ShloMosaic.Lib.WordCmp

@[expose] public section

set_option maxRecDepth 16384

noncomputable section

namespace Cert.Exchange

open Idealize.ShloMosaic

/-- A conjunction of bits over a finite set holds only if each bit does. -/
theorem fold_andi {ι : Type*} (T : Finset ι) (a : BitVec 1) (f : ι → BitVec 1) (h : T.fold IntOp.andi a f = 1#1) : ∀ t ∈ T, f t = 1#1 := by
  classical
  have two : ∀ p q : BitVec 1, IntOp.andi p q = 1#1 → p = 1#1 ∧ q = 1#1 := by decide
  induction T using Finset.induction_on with
  | empty => intro t ht; exact absurd ht (Finset.notMem_empty t)
  | insert x T hx ih =>
    rw [Finset.fold_insert hx] at h
    obtain ⟨h1, h2⟩ := two _ _ h
    intro t ht
    rcases Finset.mem_insert.1 ht with rfl | ht
    · exact h1
    · exact ih h2 t ht

/-- A conjunction over all of an array holds only if it holds at each element. -/
theorem reduce_andi {s t : Shape} {axes : List (Fin s.rank)} (x : IVec s 1) (v : IVec t 1) (h' : s.ReducesTo axes t) (hu : 0 < t.numel)
    (ht : ∀ i j : t.Idx, i = j) (j : t.Idx) (h : Host.reduce IntOp.andi x v h' hu j = 1#1) (i : s.Idx) : x i = 1#1 := by
  rw [Host.reduce_eq_fold] at h
  exact fold_andi _ _ _ h i (Finset.mem_filter.2 ⟨Finset.mem_univ _, ht _ _⟩)

/-- An extended real whose absolute value is below `+∞` is a real number. -/
theorem real_of_abs_lt (a : EReal) (h : FloatOps.cmpf (F := Ideal) (φ := .bf16) .olt (FloatOps.hostAbsf a) (FloatOps.ofBits .bf16 0x7F80#16) = 1#1) :
    ∃ r : ℝ, a = r := by
  have htop : Ideal.ofBits .bf16 0x7F80#16 = ⊤ := by simp [Ideal.ofBits, Ideal.ieee]
  change Ideal.cmp .olt (max a (-a)) (Ideal.ofBits .bf16 0x7F80#16) = 1#1 at h
  rw [htop] at h
  unfold Ideal.cmp at h
  induction a using EReal.rec with
  | bot => simp at h
  | coe r => exact ⟨r, rfl⟩
  | top => simp at h

open Cert.Pre_finite_scores_KernelIdeal in
/-- The precondition, read: the three operands a score is made of hold real numbers only. -/
theorem finite_read [Facts] (x : FVec Ideal S2x512x768 .bf16) (wq : FVec Ideal S768x512 .bf16) (k v : FVec Ideal S2x512x8x64 .bf16)
    (wo : FVec Ideal S512x768 .bf16) (h : fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  have two : ∀ p q : BitVec 1, IntOp.andi p q = 1#1 → p = 1#1 ∧ q = 1#1 := by decide
  have hs : ∀ i j : S_.Idx, i = j := fun i j => funext fun a => a.elim0
  have h0 := congrFun h ix0
  obtain ⟨h1, h4⟩ := two _ _ h0
  obtain ⟨h2, h3⟩ := two _ _ h1
  exact ⟨fun i => real_of_abs_lt _ (reduce_andi _ _ _ _ hs _ h2 i), fun i => real_of_abs_lt _ (reduce_andi _ _ _ _ hs _ h3 i),
    fun i => real_of_abs_lt _ (reduce_andi _ _ _ _ hs _ h4 i)⟩

end Cert.Exchange

end
-- ==== Proof.Algebraic.lean ====
/-
  THE VALUE CLAIM. From arguments that are the parts of the reference's arguments, with finite `x`, `Wq` and keys, every
  device of the kernel ends with the whole of the reference's result.
-/
module

public import proofs.«01_k».proof.Proof.Frames
public import proofs.«01_k».proof.Proof.Value
public import proofs.«01_k».proof.Proof.Finite
public import proofs.«01_k».proof.Proof.Gen.ReferenceIdeal.Run
public import proofs.«01_k».proof.Defs

@[expose] public section

set_option maxRecDepth 16384

noncomputable section

namespace Cert.Exchange

open Cert.KernelIdeal Cert.KernelIdeal.Gen
open Idealize.ShloMosaic Idealize.ShloMosaic.TcCoe Idealize.SL.Sem
open Idealize.ShloMosaic.Pipeline (Dat)

section
variable {F : FTy → Type} [FloatOps F]
variable (m : (ℓ : Loc nD τ sig) → Buf (Elt F) ℓ)

/-- The result array ends holding what the body wrote to its one block. -/
theorem finalA_out (c : Dev nD) : finalA m c (5 : Fin 6) = outV (argsOf m) c := by
  unfold finalA
  rw [show cfg0.N = ((0 : Fin 1) : Fin cfg0.N).val + 1 from rfl, (dats m 0 c).arrAt_succ (5 : Fin 6) (0 : Fin 1),
    show (cfg0.win (5 : Fin 6)).flush (0 : Fin 1) = true from by decide, if_pos rfl]
  exact Memref.write_access_unit_zero_univ (Elt F) main_v1 (off := fun a => win0_5.index (0 : Fin 1) a * main_v1.ty.shape.size a)
    (funext fun a => by fin_cases a <;> decide) (fun a => by fin_cases a <;> decide) _ _

/-- The blocks the body works on are the argument arrays themselves. -/
theorem args_x (c : Dev nD) : (argsOf m).x c = m ((c.tc : Thread nD τ).loc main_arg0) := by
  unfold argsOf blkOf
  exact Memref.read_access_unit_zero (Elt F) main_arg0 (off := fun a => win0_0.index (0 : Fin 1) a * main_arg0.ty.shape.size a)
    (funext fun a => by fin_cases a <;> decide) (fun a => by fin_cases a <;> decide) (m ((c.tc : Thread nD τ).loc main_arg0))
theorem args_wq (c : Dev nD) : (argsOf m).wq c = m ((c.tc : Thread nD τ).loc main_arg1) := by
  unfold argsOf blkOf
  exact Memref.read_access_unit_zero (Elt F) main_arg1 (off := fun a => win0_1.index (0 : Fin 1) a * main_arg1.ty.shape.size a)
    (funext fun a => by fin_cases a <;> decide) (fun a => by fin_cases a <;> decide) (m ((c.tc : Thread nD τ).loc main_arg1))
theorem args_k (c : Dev nD) : (argsOf m).k c = m ((c.tc : Thread nD τ).loc main_arg2) := by
  unfold argsOf blkOf
  exact Memref.read_access_unit_zero (Elt F) main_arg2 (off := fun a => win0_2.index (0 : Fin 1) a * main_arg2.ty.shape.size a)
    (funext fun a => by fin_cases a <;> decide) (fun a => by fin_cases a <;> decide) (m ((c.tc : Thread nD τ).loc main_arg2))
theorem args_v (c : Dev nD) : (argsOf m).v c = m ((c.tc : Thread nD τ).loc main_arg3) := by
  unfold argsOf blkOf
  exact Memref.read_access_unit_zero (Elt F) main_arg3 (off := fun a => win0_3.index (0 : Fin 1) a * main_arg3.ty.shape.size a)
    (funext fun a => by fin_cases a <;> decide) (fun a => by fin_cases a <;> decide) (m ((c.tc : Thread nD τ).loc main_arg3))
theorem args_wo (c : Dev nD) : (argsOf m).wo c = m ((c.tc : Thread nD τ).loc main_arg4) := by
  unfold argsOf blkOf
  exact Memref.read_access_unit_zero (Elt F) main_arg4 (off := fun a => win0_4.index (0 : Fin 1) a * main_arg4.ty.shape.size a)
    (funext fun a => by fin_cases a <;> decide) (fun a => by fin_cases a <;> decide) (m ((c.tc : Thread nD τ).loc main_arg4))

end

/-- The kernel's result, on every device, is the reference's. -/
theorem algebraic : Cert.algebraic_KernelIdeal_ReferenceIdeal_pre_finite_scores_KernelIdeal := by
  intro m g m' g' hpre hm
  have R : Finite (argsOf m) :=
    ⟨fun c => by rw [args_x]; exact (finite_read _ _ _ _ _ (hpre c)).1,
      fun c => by rw [args_wq]; exact (finite_read _ _ _ _ _ (hpre c)).2.1,
      fun c => by rw [args_k]; exact (finite_read _ _ _ _ _ (hpre c)).2.2⟩
  have H : Held (argsOf m) _ _ _ _ _ :=
    ⟨fun c => (args_x m c).trans (hm c).1, fun c => (args_wq m c).trans (hm c).2.1, fun c => (args_k m c).trans (hm c).2.2.1,
      fun c => (args_v m c).trans (hm c).2.2.2.1, fun c => (args_wo m c).trans (hm c).2.2.2.2⟩
  refine ⟨Cert.ReferenceIdeal.Value.res_main_v47 m' 0, (θ_run _ _ _).mono (fun r h c => ⟨?_, (h.1 c).2⟩) (run_args m g),
    (θ_run _ _ _).mono (fun r h => h 0) (Cert.ReferenceIdeal.Value.run (F := Ideal) m' g')⟩
  rw [(h.1 c).1, finalA_out, outV_ref H R c, Cert.ReferenceIdeal.Read.val_main_v47_eq]

end Cert.Exchange

end
-- ==== Proof.lean ====
/-
The proof of `Cert.Claim`: the three frames, the idealization and the value claim, each from its module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.RefFrame
public import proofs.«01_k».proof.Proof.Algebraic

@[expose] public section

noncomputable section

namespace Cert.Proof

/-- Every claim. A frame under the precondition is the frame without it. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    Cert.Exchange.frame_kernel, Cert.Exchange.frame_ideal, fun m g _ => Cert.Exchange.frame_ideal m g trivial,
    Cert.Exchange.frame_reference, fun m g _ => Cert.Exchange.frame_reference m g trivial, trivial,
    Cert.Exchange.algebraic⟩

end Cert.Proof

end
